-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_d" .f32 0x39CCCCCD#32 ((1 / 2560 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x2560 : Shape := ⟨3, ![8, 4096, 2560]⟩
abbrev S2560 : Shape := ⟨1, ![2560]⟩
abbrev S1x2560 : Shape := ⟨2, ![1, 2560]⟩
abbrev S20x8x4096 : Shape := ⟨3, ![20, 8, 4096]⟩
abbrev S8x128x2560 : Shape := ⟨3, ![8, 128, 2560]⟩
abbrev S20x8x128 : Shape := ⟨3, ![20, 8, 128]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S1x252 : Shape := ⟨2, ![1, 252]⟩
abbrev S32x252 : Shape := ⟨2, ![32, 252]⟩
abbrev S128x128 : Shape := ⟨2, ![128, 128]⟩
abbrev S20x128 : Shape := ⟨2, ![20, 128]⟩
abbrev S20x1x128 : Shape := ⟨3, ![20, 1, 128]⟩
abbrev S8x4096x20 : Shape := ⟨3, ![8, 4096, 20]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x2560, .bf16⟩
  | .hbm, ⟨1, _⟩ => ⟨S2560, .bf16⟩
  | .hbm, ⟨2, _⟩ => ⟨S2560, .f32⟩
  | .hbm, ⟨3, _⟩ => ⟨S1x2560, .f32⟩
  | .hbm, ⟨4, _⟩ => ⟨S8x4096x2560, .fp8e4m3⟩
  | .hbm, ⟨5, _⟩ => ⟨S20x8x4096, .f32⟩
  | .hbm, ⟨6, _⟩ => ⟨S8x4096x20, .f32⟩
  | .local _ .vmem, ⟨0, _⟩ => ⟨S8x128x2560, .bf16⟩
  | .local _ .vmem, ⟨1, _⟩ => ⟨S8x128x2560, .bf16⟩
  | .local _ .vmem, ⟨2, _⟩ => ⟨S1x2560, .f32⟩
  | .local _ .vmem, ⟨3, _⟩ => ⟨S8x128x2560, .fp8e4m3⟩
  | .local _ .vmem, ⟨4, _⟩ => ⟨S8x128x2560, .fp8e4m3⟩
  | .local _ .vmem, ⟨5, _⟩ => ⟨S20x8x128, .f32⟩
  | .local _ .vmem, ⟨6, _⟩ => ⟨S20x8x128, .f32⟩
  | _, _ => ⟨S8x4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1 : Index := Scalar.indexCast arg5
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v6 : Index := Scalar.indexCast arg5
  let c0_2 : Index := 0#32
  let c128 : Index := 128#32
  ![v6.toNat, 0, 128]
def k0_off3 (k0_t1 : Fin k0_t1_loop.trips) : Fin 3 → Nat :=
  let c0_i32 : BitVec 32 := 0#32
  let c1_i32 : BitVec 32 := 1#32
  let arg5 : BitVec 32 := Scf.iv c0_i32 c1_i32 k0_t1
  let v12 : Index := Scalar.indexCast arg5
  let c0_3 : Index := 0#32
  let c256 : Index := 256#32
  ![v12.toNat, 0, 256]
def k0_off4 (k0_t1 : Fin k0_t1_loop.trips) : Fin 3 → Nat :=
  let c0_i32 : BitVec 32 := 0#32
  let c1_i32 : BitVec 32 := 1#32
  let arg5 : BitVec 32 := Scf.iv c0_i32 c1_i32 k0_t1
  let v18 : Index := Scalar.indexCast arg5
  let c0_4 : Index := 0#32
  let c384 : Index := 384#32
  ![v18.toNat, 0, 384]
def k0_off5 (k0_t1 : Fin k0_t1_loop.trips) : Fin 3 → Nat :=
  let c0_i32 : BitVec 32 := 0#32
  let c1_i32 : BitVec 32 := 1#32
  let arg5 : BitVec 32 := Scf.iv c0_i32 c1_i32 k0_t1
  let v24 : Index := Scalar.indexCast arg5
  let c0_5 : Index := 0#32
  let c512 : Index := 512#32
  ![v24.toNat, 0, 512]
def k0_off6 (k0_t1 : Fin k0_t1_loop.trips) : Fin 3 → Nat :=
  let c0_i32 : BitVec 32 := 0#32
  let c1_i32 : BitVec 32 := 1#32
  let arg5 : BitVec 32 := Scf.iv c0_i32 c1_i32 k0_t1
  let v30 : Index := Scalar.indexCast arg5
  let c0_6 : Index := 0#32
  let c640 : Index := 640#32
  ![v30.toNat, 0, 640]
def k0_off7 (k0_t1 : Fin k0_t1_loop.trips) : Fin 3 → Nat :=
  let c0_i32 : BitVec 32 := 0#32
  let c1_i32 : BitVec 32 := 1#32
  let arg5 : BitVec 32 := Scf.iv c0_i32 c1_i32 k0_t1
  let v36 : Index := Scalar.indexCast arg5
  let c0_7 : Index := 0#32
  let c768 : Index := 768#32
  ![v36.toNat, 0, 768]
def k0_off8 (k0_t1 : Fin k0_t1_loop.trips) : Fin 3 → Nat :=
  let c0_i32 : BitVec 32 := 0#32
  let c1_i32 : BitVec 32 := 1#32
  let arg5 : BitVec 32 := Scf.iv c0_i32 c1_i32 k0_t1
  let v42 : Index := Scalar.indexCast arg5
  let c0_8 : Index := 0#32
  let c896 : Index := 896#32
  ![v42.toNat, 0, 896]
def k0_off9 (k0_t1 : Fin k0_t1_loop.trips) : Fin 3 → Nat :=
  let c0_i32 : BitVec 32 := 0#32
  let c1_i32 : BitVec 32 := 1#32
  let arg5 : BitVec 32 := Scf.iv c0_i32 c1_i32 k0_t1
  let v48 : Index := Scalar.indexCast arg5
  let c0_9 : Index := 0#32
  let c1024 : Index := 1024#32
  ![v48.toNat, 0, 1024]
def k0_off10 (k0_t1 : Fin k0_t1_loop.trips) : Fin 3 → Nat :=
  let c0_i32 : BitVec 32 := 0#32
  let c1_i32 : BitVec 32 := 1#32
  let arg5 : BitVec 32 := Scf.iv c0_i32 c1_i32 k0_t1
  let v54 : Index := Scalar.indexCast arg5
  let c0_10 : Index := 0#32
  let c1152 : Index := 1152#32
  ![v54.toNat, 0, 1152]
def k0_off11 (k0_t1 : Fin k0_t1_loop.trips) : Fin 3 → Nat :=
  let c0_i32 : BitVec 32 := 0#32
  let c1_i32 : BitVec 32 := 1#32
  let arg5 : BitVec 32 := Scf.iv c0_i32 c1_i32 k0_t1
  let v60 : Index := Scalar.indexCast arg5
  let c0_11 : Index := 0#32
  let c1280 : Index := 1280#32
  ![v60.toNat, 0, 1280]
def k0_off12 (k0_t1 : Fin k0_t1_loop.trips) : Fin 3 → Nat :=
  let c0_i32 : BitVec 32 := 0#32
  let c1_i32 : BitVec 32 := 1#32
  let arg5 : BitVec 32 := Scf.iv c0_i32 c1_i32 k0_t1
  let v66 : Index := Scalar.indexCast arg5
  let c0_12 : Index := 0#32
  let c1408 : Index := 1408#32
  ![v66.toNat, 0, 1408]
def k0_off13 (k0_t1 : Fin k0_t1_loop.trips) : Fin 3 → Nat :=
  let c0_i32 : BitVec 32 := 0#32
  let c1_i32 : BitVec 32 := 1#32
  let arg5 : BitVec 32 := Scf.iv c0_i32 c1_i32 k0_t1
  let v72 : Index := Scalar.indexCast arg5
  let c0_13 : Index := 0#32
  let c1536 : Index := 1536#32
  ![v72.toNat, 0, 1536]
def k0_off14 (k0_t1 : Fin k0_t1_loop.trips) : Fin 3 → Nat :=
  let c0_i32 : BitVec 32 := 0#32
  let c1_i32 : BitVec 32 := 1#32
  let arg5 : BitVec 32 := Scf.iv c0_i32 c1_i32 k0_t1
  let v78 : Index := Scalar.indexCast arg5
  let c0_14 : Index := 0#32
  let c1664 : Index := 1664#32
  ![v78.toNat, 0, 1664]
def k0_off15 (k0_t1 : Fin k0_t1_loop.trips) : Fin 3 → Nat :=
  let c0_i32 : BitVec 32 := 0#32
  let c1_i32 : BitVec 32 := 1#32
  let arg5 : BitVec 32 := Scf.iv c0_i32 c1_i32 k0_t1
  let v84 : Index := Scalar.indexCast arg5
  let c0_15 : Index := 0#32
  let c1792 : Index := 1792#32
  ![v84.toNat, 0, 1792]
def k0_off16 (k0_t1 : Fin k0_t1_loop.trips) : Fin 3 → Nat :=
  let c0_i32 : BitVec 32 := 0#32
  let c1_i32 : BitVec 32 := 1#32
  let arg5 : BitVec 32 := Scf.iv c0_i32 c1_i32 k0_t1
  let v90 : Index := Scalar.indexCast arg5
  let c0_16 : Index := 0#32
  let c1920 : Index := 1920#32
  ![v90.toNat, 0, 1920]
def k0_off17 (k0_t1 : Fin k0_t1_loop.trips) : Fin 3 → Nat :=
  let c0_i32 : BitVec 32 := 0#32
  let c1_i32 : BitVec 32 := 1#32
  let arg5 : BitVec 32 := Scf.iv c0_i32 c1_i32 k0_t1
  let v96 : Index := Scalar.indexCast arg5
  let c0_17 : Index := 0#32
  let c2048 : Index := 2048#32
  ![v96.toNat, 0, 2048]
def k0_off18 (k0_t1 : Fin k0_t1_loop.trips) : Fin 3 → Nat :=
  let c0_i32 : BitVec 32 := 0#32
  let c1_i32 : BitVec 32 := 1#32
  let arg5 : BitVec 32 := Scf.iv c0_i32 c1_i32 k0_t1
  let v102 : Index := Scalar.indexCast arg5
  let c0_18 : Index := 0#32
  let c2176 : Index := 2176#32
  ![v102.toNat, 0, 2176]
def k0_off19 (k0_t1 : Fin k0_t1_loop.trips) : Fin 3 → Nat :=
  let c0_i32 : BitVec 32 := 0#32
  let c1_i32 : BitVec 32 := 1#32
  let arg5 : BitVec 32 := Scf.iv c0_i32 c1_i32 k0_t1
  let v108 : Index := Scalar.indexCast arg5
  let c0_19 : Index := 0#32
  let c2304 : Index := 2304#32
  ![v108.toNat, 0, 2304]
def k0_off20 (k0_t1 : Fin k0_t1_loop.trips) : Fin 3 → Nat :=
  let c0_i32 : BitVec 32 := 0#32
  let c1_i32 : BitVec 32 := 1#32
  let arg5 : BitVec 32 := Scf.iv c0_i32 c1_i32 k0_t1
  let v114 : Index := Scalar.indexCast arg5
  let c0_20 : Index := 0#32
  let c2432 : Index := 2432#32
  ![v114.toNat, 0, 2432]
def k0_off21 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1309 : Index := Scalar.indexCast arg5
  let c32 : Index := 32#32
  let c0_424 : Index := 0#32
  ![v1309.toNat, 32, 0]
def k0_off22 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1314 : Index := Scalar.indexCast arg5
  let c32_425 : Index := 32#32
  let c128_426 : Index := 128#32
  ![v1314.toNat, 32, 128]
def k0_off23 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1320 : Index := Scalar.indexCast arg5
  let c32_427 : Index := 32#32
  let c256_428 : Index := 256#32
  ![v1320.toNat, 32, 256]
def k0_off24 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1326 : Index := Scalar.indexCast arg5
  let c32_429 : Index := 32#32
  let c384_430 : Index := 384#32
  ![v1326.toNat, 32, 384]
def k0_off25 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1332 : Index := Scalar.indexCast arg5
  let c32_431 : Index := 32#32
  let c512_432 : Index := 512#32
  ![v1332.toNat, 32, 512]
def k0_off26 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1338 : Index := Scalar.indexCast arg5
  let c32_433 : Index := 32#32
  let c640_434 : Index := 640#32
  ![v1338.toNat, 32, 640]
def k0_off27 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1344 : Index := Scalar.indexCast arg5
  let c32_435 : Index := 32#32
  let c768_436 : Index := 768#32
  ![v1344.toNat, 32, 768]
def k0_off28 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1350 : Index := Scalar.indexCast arg5
  let c32_437 : Index := 32#32
  let c896_438 : Index := 896#32
  ![v1350.toNat, 32, 896]
def k0_off29 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1356 : Index := Scalar.indexCast arg5
  let c32_439 : Index := 32#32
  let c1024_440 : Index := 1024#32
  ![v1356.toNat, 32, 1024]
def k0_off30 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1362 : Index := Scalar.indexCast arg5
  let c32_441 : Index := 32#32
  let c1152_442 : Index := 1152#32
  ![v1362.toNat, 32, 1152]
def k0_off31 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1368 : Index := Scalar.indexCast arg5
  let c32_443 : Index := 32#32
  let c1280_444 : Index := 1280#32
  ![v1368.toNat, 32, 1280]
def k0_off32 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1374 : Index := Scalar.indexCast arg5
  let c32_445 : Index := 32#32
  let c1408_446 : Index := 1408#32
  ![v1374.toNat, 32, 1408]
def k0_off33 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1380 : Index := Scalar.indexCast arg5
  let c32_447 : Index := 32#32
  let c1536_448 : Index := 1536#32
  ![v1380.toNat, 32, 1536]
def k0_off34 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1386 : Index := Scalar.indexCast arg5
  let c32_449 : Index := 32#32
  let c1664_450 : Index := 1664#32
  ![v1386.toNat, 32, 1664]
def k0_off35 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1392 : Index := Scalar.indexCast arg5
  let c32_451 : Index := 32#32
  let c1792_452 : Index := 1792#32
  ![v1392.toNat, 32, 1792]
def k0_off36 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1398 : Index := Scalar.indexCast arg5
  let c32_453 : Index := 32#32
  let c1920_454 : Index := 1920#32
  ![v1398.toNat, 32, 1920]
def k0_off37 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1404 : Index := Scalar.indexCast arg5
  let c32_455 : Index := 32#32
  let c2048_456 : Index := 2048#32
  ![v1404.toNat, 32, 2048]
def k0_off38 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1410 : Index := Scalar.indexCast arg5
  let c32_457 : Index := 32#32
  let c2176_458 : Index := 2176#32
  ![v1410.toNat, 32, 2176]
def k0_off39 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1416 : Index := Scalar.indexCast arg5
  let c32_459 : Index := 32#32
  let c2304_460 : Index := 2304#32
  ![v1416.toNat, 32, 2304]
def k0_off40 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1422 : Index := Scalar.indexCast arg5
  let c32_461 : Index := 32#32
  let c2432_462 : Index := 2432#32
  ![v1422.toNat, 32, 2432]
def k0_off41 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2617 : Index := Scalar.indexCast arg5
  let c64 : Index := 64#32
  let c0_887 : Index := 0#32
  ![v2617.toNat, 64, 0]
def k0_off42 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2622 : Index := Scalar.indexCast arg5
  let c64_888 : Index := 64#32
  let c128_889 : Index := 128#32
  ![v2622.toNat, 64, 128]
def k0_off43 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2628 : Index := Scalar.indexCast arg5
  let c64_890 : Index := 64#32
  let c256_891 : Index := 256#32
  ![v2628.toNat, 64, 256]
def k0_off44 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2634 : Index := Scalar.indexCast arg5
  let c64_892 : Index := 64#32
  let c384_893 : Index := 384#32
  ![v2634.toNat, 64, 384]
def k0_off45 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2640 : Index := Scalar.indexCast arg5
  let c64_894 : Index := 64#32
  let c512_895 : Index := 512#32
  ![v2640.toNat, 64, 512]
def k0_off46 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2646 : Index := Scalar.indexCast arg5
  let c64_896 : Index := 64#32
  let c640_897 : Index := 640#32
  ![v2646.toNat, 64, 640]
def k0_off47 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2652 : Index := Scalar.indexCast arg5
  let c64_898 : Index := 64#32
  let c768_899 : Index := 768#32
  ![v2652.toNat, 64, 768]
def k0_off48 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2658 : Index := Scalar.indexCast arg5
  let c64_900 : Index := 64#32
  let c896_901 : Index := 896#32
  ![v2658.toNat, 64, 896]
def k0_off49 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2664 : Index := Scalar.indexCast arg5
  let c64_902 : Index := 64#32
  let c1024_903 : Index := 1024#32
  ![v2664.toNat, 64, 1024]
def k0_off50 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2670 : Index := Scalar.indexCast arg5
  let c64_904 : Index := 64#32
  let c1152_905 : Index := 1152#32
  ![v2670.toNat, 64, 1152]
def k0_off51 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2676 : Index := Scalar.indexCast arg5
  let c64_906 : Index := 64#32
  let c1280_907 : Index := 1280#32
  ![v2676.toNat, 64, 1280]
def k0_off52 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2682 : Index := Scalar.indexCast arg5
  let c64_908 : Index := 64#32
  let c1408_909 : Index := 1408#32
  ![v2682.toNat, 64, 1408]
def k0_off53 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2688 : Index := Scalar.indexCast arg5
  let c64_910 : Index := 64#32
  let c1536_911 : Index := 1536#32
  ![v2688.toNat, 64, 1536]
def k0_off54 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2694 : Index := Scalar.indexCast arg5
  let c64_912 : Index := 64#32
  let c1664_913 : Index := 1664#32
  ![v2694.toNat, 64, 1664]
def k0_off55 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2700 : Index := Scalar.indexCast arg5
  let c64_914 : Index := 64#32
  let c1792_915 : Index := 1792#32
  ![v2700.toNat, 64, 1792]
def k0_off56 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2706 : Index := Scalar.indexCast arg5
  let c64_916 : Index := 64#32
  let c1920_917 : Index := 1920#32
  ![v2706.toNat, 64, 1920]
def k0_off57 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2712 : Index := Scalar.indexCast arg5
  let c64_918 : Index := 64#32
  let c2048_919 : Index := 2048#32
  ![v2712.toNat, 64, 2048]
def k0_off58 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2718 : Index := Scalar.indexCast arg5
  let c64_920 : Index := 64#32
  let c2176_921 : Index := 2176#32
  ![v2718.toNat, 64, 2176]
def k0_off59 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2724 : Index := Scalar.indexCast arg5
  let c64_922 : Index := 64#32
  let c2304_923 : Index := 2304#32
  ![v2724.toNat, 64, 2304]
def k0_off60 (k0_t1 : Fin k0_t1_loop.trips) : Fin 3 → Nat :=
  let c0_i32 : BitVec 32 := 0#32
  let c1_i32 : BitVec 32 := 1#32
  let arg5 : BitVec 32 := Scf.iv c0_i32 c1_i32 k0_t1
  let v2730 : Index := Scalar.indexCast arg5
  let c64_924 : Index := 64#32
  let c2432_925 : Index := 2432#32
  ![v2730.toNat, 64, 2432]
def k0_off61 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3925 : Index := Scalar.indexCast arg5
  let c96 : Index := 96#32
  let c0_1350 : Index := 0#32
  ![v3925.toNat, 96, 0]
def k0_off62 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3930 : Index := Scalar.indexCast arg5
  let c96_1351 : Index := 96#32
  let c128_1352 : Index := 128#32
  ![v3930.toNat, 96, 128]
def k0_off63 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3936 : Index := Scalar.indexCast arg5
  let c96_1353 : Index := 96#32
  let c256_1354 : Index := 256#32
  ![v3936.toNat, 96, 256]
def k0_off64 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3942 : Index := Scalar.indexCast arg5
  let c96_1355 : Index := 96#32
  let c384_1356 : Index := 384#32
  ![v3942.toNat, 96, 384]
def k0_off65 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3948 : Index := Scalar.indexCast arg5
  let c96_1357 : Index := 96#32
  let c512_1358 : Index := 512#32
  ![v3948.toNat, 96, 512]
def k0_off66 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3954 : Index := Scalar.indexCast arg5
  let c96_1359 : Index := 96#32
  let c640_1360 : Index := 640#32
  ![v3954.toNat, 96, 640]
def k0_off67 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3960 : Index := Scalar.indexCast arg5
  let c96_1361 : Index := 96#32
  let c768_1362 : Index := 768#32
  ![v3960.toNat, 96, 768]
def k0_off68 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3966 : Index := Scalar.indexCast arg5
  let c96_1363 : Index := 96#32
  let c896_1364 : Index := 896#32
  ![v3966.toNat, 96, 896]
def k0_off69 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3972 : Index := Scalar.indexCast arg5
  let c96_1365 : Index := 96#32
  let c1024_1366 : Index := 1024#32
  ![v3972.toNat, 96, 1024]
def k0_off70 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3978 : Index := Scalar.indexCast arg5
  let c96_1367 : Index := 96#32
  let c1152_1368 : Index := 1152#32
  ![v3978.toNat, 96, 1152]
def k0_off71 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3984 : Index := Scalar.indexCast arg5
  let c96_1369 : Index := 96#32
  let c1280_1370 : Index := 1280#32
  ![v3984.toNat, 96, 1280]
def k0_off72 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3990 : Index := Scalar.indexCast arg5
  let c96_1371 : Index := 96#32
  let c1408_1372 : Index := 1408#32
  ![v3990.toNat, 96, 1408]
def k0_off73 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3996 : Index := Scalar.indexCast arg5
  let c96_1373 : Index := 96#32
  let c1536_1374 : Index := 1536#32
  ![v3996.toNat, 96, 1536]
def k0_off74 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4002 : Index := Scalar.indexCast arg5
  let c96_1375 : Index := 96#32
  let c1664_1376 : Index := 1664#32
  ![v4002.toNat, 96, 1664]
def k0_off75 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4008 : Index := Scalar.indexCast arg5
  let c96_1377 : Index := 96#32
  let c1792_1378 : Index := 1792#32
  ![v4008.toNat, 96, 1792]
def k0_off76 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4014 : Index := Scalar.indexCast arg5
  let c96_1379 : Index := 96#32
  let c1920_1380 : Index := 1920#32
  ![v4014.toNat, 96, 1920]
def k0_off77 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4020 : Index := Scalar.indexCast arg5
  let c96_1381 : Index := 96#32
  let c2048_1382 : Index := 2048#32
  ![v4020.toNat, 96, 2048]
def k0_off78 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4026 : Index := Scalar.indexCast arg5
  let c96_1383 : Index := 96#32
  let c2176_1384 : Index := 2176#32
  ![v4026.toNat, 96, 2176]
def k0_off79 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4032 : Index := Scalar.indexCast arg5
  let c96_1385 : Index := 96#32
  let c2304_1386 : Index := 2304#32
  ![v4032.toNat, 96, 2304]
def k0_off80 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4038 : Index := Scalar.indexCast arg5
  let c96_1387 : Index := 96#32
  let c2432_1388 : Index := 2432#32
  ![v4038.toNat, 96, 2432]
def k0_off81 (k0_t1 : Fin k0_t1_loop.trips) : Fin 3 → Nat :=
  let c0_1813 : Index := 0#32
  let c0_i32 : BitVec 32 := 0#32
  let c1_i32 : BitVec 32 := 1#32
  let arg5 : BitVec 32 := Scf.iv c0_i32 c1_i32 k0_t1
  let v5237 : Index := Scalar.indexCast arg5
  let c0_1814 : Index := 0#32
  ![0, v5237.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x128x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_d" => some ((1 / 2560 : ℝ) : EReal)
  | _ => none
-- ==== ReferenceIdeal.lean ====
abbrev S8x4096x2560 : Shape := ⟨3, ![8, 4096, 2560]⟩
abbrev S2560 : Shape := ⟨1, ![2560]⟩
abbrev S8x4096x20x128 : Shape := ⟨4, ![8, 4096, 20, 128]⟩
abbrev S_ : Shape := ⟨0, ![]⟩
abbrev S8x4096 : Shape := ⟨2, ![8, 4096]⟩
abbrev S8x4096x1x1 : Shape := ⟨4, ![8, 4096, 1, 1]⟩
abbrev S20x128 : Shape := ⟨2, ![20, 128]⟩
abbrev S1x1x20x128 : Shape := ⟨4, ![1, 1, 20, 128]⟩
abbrev S8x4096x20 : Shape := ⟨3, ![8, 4096, 20]⟩
abbrev S253 : Shape := ⟨1, ![253]⟩
abbrev S8x4096x20x1 : Shape := ⟨4, ![8, 4096, 20, 1]⟩
abbrev S1x1x1x253 : Shape := ⟨4, ![1, 1, 1, 253]⟩
abbrev S8x4096x20x253 : Shape := ⟨4, ![8, 4096, 20, 253]⟩

abbrev nBuf : Space → Nat
  | .hbm => 64
  | .vmem => 2
  | .smem => 0
  | _ => 0

abbrev bufTy : (tb : Table) → Fin (tcTables nBuf tb) → BufTy
  | .hbm, ⟨0, _⟩ => ⟨S8x4096x2560, .bf16⟩
  | .hbm, ⟨1, _⟩ => ⟨S2560, .bf16⟩
  | .hbm, ⟨2, _⟩ => ⟨S8x4096x2560, .f32⟩
  | .hbm, ⟨3, _⟩ => ⟨S8x4096x20x128, .f32⟩
  | .hbm, ⟨4, _⟩ => ⟨S8x4096x20x128, .f32⟩
  | .hbm, ⟨5, _⟩ => ⟨S_, .f32⟩
  | .hbm, ⟨6, _⟩ => ⟨S8x4096, .f32⟩
  | .hbm, ⟨7, _⟩ => ⟨S8x4096x1x1, .f32⟩
  | .hbm, ⟨8, _⟩ => ⟨S_, .f32⟩
  | .hbm, ⟨9, _⟩ => ⟨S8x4096x1x1, .f32⟩
  | .hbm, ⟨10, _⟩ => ⟨S8x4096x1x1, .f32⟩
  | .hbm, ⟨11, _⟩ => ⟨S2560, .f32⟩
  | .hbm, ⟨12, _⟩ => ⟨S20x128, .f32⟩
  | .hbm, ⟨13, _⟩ => ⟨S_, .f32⟩
  | .hbm, ⟨14, _⟩ => ⟨S8x4096x1x1, .f32⟩
  | .hbm, ⟨15, _⟩ => ⟨S8x4096x1x1, .f32⟩
  | .hbm, ⟨16, _⟩ => ⟨S8x4096x1x1, .f32⟩
  | .hbm, ⟨17, _⟩ => ⟨S8x4096x20x128, .f32⟩
  | .hbm, ⟨18, _⟩ => ⟨S8x4096x20x128, .f32⟩
  | .hbm, ⟨19, _⟩ => ⟨S1x1x20x128, .f32⟩
  | .hbm, ⟨20, _⟩ => ⟨S8x4096x20x128, .f32⟩
  | .hbm, ⟨21, _⟩ => ⟨S8x4096x20x128, .f32⟩
  | .hbm, ⟨22, _⟩ => ⟨S8x4096x20x128, .f32⟩
  | .hbm, ⟨23, _⟩ => ⟨S_, .f32⟩
  | .hbm, ⟨24, _⟩ => ⟨S8x4096x20, .f32⟩
  | .hbm, ⟨25, _⟩ => ⟨S_, .f32⟩
  | .hbm, ⟨26, _⟩ => ⟨S8x4096x20, .f32⟩
  | .hbm, ⟨27, _⟩ => ⟨S8x4096x20, .f32⟩
  | .hbm, ⟨28, _⟩ => ⟨S253, .f32⟩
  | .hbm, ⟨29, _⟩ => ⟨S_, .f32⟩
  | .hbm, ⟨30, _⟩ => ⟨S253, .f32⟩
  | .hbm, ⟨31, _⟩ => ⟨S253, .f32⟩
  | .hbm, ⟨32, _⟩ => ⟨S8x4096x20x1, .f32⟩
  | .hbm, ⟨33, _⟩ => ⟨S_, .f32⟩
  | .hbm, ⟨34, _⟩ => ⟨S253, .f32⟩
  | .hbm, ⟨35, _⟩ => ⟨S253, .f32⟩
  | .hbm, ⟨36, _⟩ => ⟨S1x1x1x253, .f32⟩
  | .hbm, ⟨37, _⟩ => ⟨S8x4096x20x253, .f32⟩
  | .hbm, ⟨38, _⟩ => ⟨S8x4096x20x253, .f32⟩
  | .hbm, ⟨39, _⟩ => ⟨S8x4096x20x253, .i1⟩
  | .hbm, ⟨40, _⟩ => ⟨S_, .f32⟩
  | .hbm, ⟨41, _⟩ => ⟨S8x4096x20x253, .f32⟩
  | .hbm, ⟨42, _⟩ => ⟨S8x4096x20x253, .f32⟩
  | .hbm, ⟨43, _⟩ => ⟨S8x4096x20x253, .f32⟩
  | .hbm, ⟨44, _⟩ => ⟨S_, .f32⟩
  | .hbm, ⟨45, _⟩ => ⟨S8x4096x20, .f32⟩
  | .hbm, ⟨46, _⟩ => ⟨S_, .f32⟩
  | .hbm, ⟨47, _⟩ => ⟨S8x4096x20, .f32⟩
  | .hbm, ⟨48, _⟩ => ⟨S8x4096x20, .i1⟩
  | .hbm, ⟨49, _⟩ => ⟨S_, .f32⟩
  | .hbm, ⟨50, _⟩ => ⟨S8x4096x20, .f32⟩
  | .hbm, ⟨51, _⟩ => ⟨S8x4096x20, .f32⟩
  | .hbm, ⟨52, _⟩ => ⟨S_, .f32⟩
  | .hbm, ⟨53, _⟩ => ⟨S8x4096x20, .f32⟩
  | .hbm, ⟨54, _⟩ => ⟨S8x4096x20, .f32⟩
  | .hbm, ⟨55, _⟩ => ⟨S8x4096x20, .f32⟩
  | .hbm, ⟨56, _⟩ => ⟨S_, .f32⟩
  | .hbm, ⟨57, _⟩ => ⟨S8x4096x20, .f32⟩
  | .hbm, ⟨58, _⟩ => ⟨S8x4096x20, .f32⟩
  | .hbm, ⟨59, _⟩ => ⟨S8x4096x20x1, .f32⟩
  | .hbm, ⟨60, _⟩ => ⟨S8x4096x20x128, .f32⟩
  | .hbm, ⟨61, _⟩ => ⟨S8x4096x20x128, .f32⟩
  | .hbm, ⟨62, _⟩ => ⟨S8x4096x20x128, .fp8e4m3⟩
  | .hbm, ⟨63, _⟩ => ⟨S8x4096x2560, .fp8e4m3⟩
  | .local _ .vmem, ⟨0, _⟩ => ⟨S8x4096x20x128, .f32⟩
  | .local _ .vmem, ⟨1, _⟩ => ⟨S8x4096x20x128, .fp8e4m3⟩
  | _, _ => ⟨S8x4096x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x4096x20x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x20x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Tile.lean ====
module

public import proofs.«01_k».proof.Proof.Gen.KernelIdeal

@[expose] public section

noncomputable section

/-! The kernel's arithmetic on one strip of 32 rows, written once: the strip is 20 tiles of 128 columns, and
    everything the kernel stores is one of the functions below of those tiles and of the weights. -/

namespace Cert.Tile

open Idealize.ShloMosaic Cert.KernelIdeal Cert.KernelIdeal.Gen

variable {F : FTy → Type} [FloatOps F] [Named F]

/-- A tile of the input, as 32 rows of 128 single-precision numbers. -/
def wide (x : Vec F S1x32x128 .bf16) : FVec F S32x128 .f32 :=
  extf .f32 (shapeCast S32x128 x shapeCasts_S1x32x128_S32x128) bitsLt_bf16_f32

/-- The elementwise sum of the squares of the tiles `0 … n`. -/
def sumSq (xs : Fin 20 → Vec F S1x32x128 .bf16) : (n : ℕ) → n < 20 → FVec F S32x128 .f32
  | 0, h => mulf (wide (xs ⟨0, h⟩)) (wide (xs ⟨0, h⟩))
  | n + 1, h => addf (sumSq xs n (Nat.lt_of_succ_lt h)) (mulf (wide (xs ⟨n + 1, h⟩)) (wide (xs ⟨n + 1, h⟩)))

/-- Each row's reciprocal root mean square. -/
def rms (xs : Fin 20 → Vec F S1x32x128 .bf16) : FVec F S32x1 .f32 :=
  rsqrt (addf (mulf (shapeCast S32x1 (multiReduction .add [1] S32 (sumSq xs 19 (by decide)) 0x00000000#32 reduces_S32x128_S32 (.inl rfl) rfl) shapeCasts_S32_S32x1)
    (broadcast S32x1 (Named.named κ "inv_d" 0x39CCCCCD#32))) (broadcast S32x1 (Scalar.ofBits .f32 0x358637BD#32)))

/-- The normalised tile: the tile times the rows' reciprocal root mean squares, times the weights. -/
def normed (rs : FVec F S32x1 .f32) (x : Vec F S1x32x128 .bf16) (g : Vec F S1x128 .f32) : FVec F S32x128 .f32 :=
  mulf (mulf (wide x) (broadcastTo S32x128 rs broadcasts_S32x1_S32x128))
    (broadcastTo S32x128 (shapeCast S1x128 g shapeCasts_S1x128_S1x128) broadcasts_S1x128_S32x128)

/-- Each row's greatest magnitude over 448. -/
def quot (y : FVec F S32x128 .f32) : FVec F S32x1 .f32 :=
  mulf (shapeCast S32x1 (multiReduction .maximumf [1] S32 (absf y) 0xFF800000#32 reduces_S32x128_S32 (.inl rfl) rfl) shapeCasts_S32_S32x1)
    (broadcast S32x1 (Scalar.ofBits .f32 0x3B124925#32))

/-- The powers of two from `2 ^ -126` on, a power per column. -/
def powers : FVec F S1x252 .f32 :=
  bitcastToFloat .f32 (shli (addi (iota .tc S1x252 32 [1] iota_S1x252_d1_w32) (broadcast S1x252 1#32)) (broadcast S1x252 23#32))

/-- Each row's count of the powers of two that do not exceed its quotient. -/
def count (q : FVec F S32x1 .f32) : IVec S32x1 32 :=
  shapeCast S32x1 (multiReductionI .add [1] S32 (extui 32 (cmpf .oge (broadcastTo S32x252 q broadcasts_S32x1_S32x252)
    (broadcastTo S32x252 powers broadcasts_S1x252_S32x252)) natLt_1_32) 0#32 reduces_S32x252_S32 rfl) shapeCasts_S32_S32x1

/-- Each row's exponent: the count less 126, and 0 where the quotient is 0. -/
def expo (q : FVec F S32x1 .f32) : IVec S32x1 32 :=
  select (cmpf .oeq q (broadcast S32x1 (Scalar.ofBits .f32 0x00000000#32))) (broadcast S32x1 0#32) (subi (count q) (broadcast S32x1 126#32))

/-- Each row's scale, two to the exponent, assembled from its bits. -/
def scale (e : IVec S32x1 32) : FVec F S32x1 .f32 :=
  bitcastToFloat .f32 (shli (addi e (broadcast S32x1 127#32)) (broadcast S32x1 23#32))

/-- Each row's inverse scale, two to minus the exponent, assembled from its bits. -/
def invScale (e : IVec S32x1 32) : FVec F S32x1 .f32 :=
  bitcastToFloat .f32 (shli (subi (broadcast S32x1 127#32) e) (broadcast S32x1 23#32))

/-- The codes of a normalised tile: times the inverse scale, clipped, cast. -/
def codes (y : FVec F S32x128 .f32) : Vec F S1x32x128 .fp8e4m3 :=
  shapeCast S1x32x128 (truncf .fp8e4m3 (minimumf (broadcast S32x128 (Scalar.ofBits .f32 0x43E00000#32)) (maximumf (broadcast S32x128 (Scalar.ofBits .f32 0xC3E00000#32))
    (mulf y (broadcastTo S32x128 (invScale (expo (quot y))) broadcasts_S32x1_S32x128)))) bitsLt_fp8e4m3_f32) shapeCasts_S32x128_S1x32x128

/-- The strip's normalised tile `n`. -/
def yTile (xs : Fin 20 → Vec F S1x32x128 .bf16) (gs : Fin 20 → Vec F S1x128 .f32) (n : Fin 20) : FVec F S32x128 .f32 :=
  normed (rms xs) (xs n) (gs n)

/-- The strip's scales gathered column by column: after tile `n`, columns `0 … n - 1` hold the tiles' scales. -/
def gathered (xs : Fin 20 → Vec F S1x32x128 .bf16) (gs : Fin 20 → Vec F S1x128 .f32) : (n : ℕ) → n ≤ 20 → FVec F S32x128 .f32
  | 0, _ => broadcast S32x128 (Scalar.ofBits .f32 0x00000000#32)
  | n + 1, h => select (cmpi .eq (iota .tc S32x128 32 [1] iota_S32x128_d1_w32) (broadcast S32x128 (BitVec.ofNat 32 n)))
      (broadcastTo S32x128 (shapeCast S32x1 (scale (expo (quot (yTile xs gs ⟨n, h⟩)))) shapeCasts_S32x1_S32x1) broadcasts_S32x1_S32x128)
      (gathered xs gs n (Nat.le_of_succ_le h))

/-- The four strips' gathered scales, stacked, transposed, and cut to the 20 columns in use. -/
def scales (sc : Fin 4 → FVec F S32x128 .f32) : Vec F S20x1x128 .f32 :=
  shapeCast S20x1x128 (extractStridedSlice S20x128 ![0, 0] (transpose S128x128 [1, 0]
    (concatenate S128x128 0 [⟨S32x128, sc 0⟩, ⟨S32x128, sc 1⟩, ⟨S32x128, sc 2⟩, ⟨S32x128, sc 3⟩] concatenates_S32x128_S32x128_S32x128_S32x128_S128x128_d0)
    transposes_S128x128_p1_0_S128x128) slices_S128x128_o0_0_S20x128) shapeCasts_S20x128_S20x1x128

end Cert.Tile

end
-- ==== Proof.Pieces.lean ====
module

public import proofs.«01_k».proof.Proof.Gen.KernelIdeal.Frame
public import proofs.«01_k».proof.Proof.Tile

@[expose] public section

set_option maxRecDepth 16384

noncomputable section

/-! What one trip of the kernel's loop stores: 80 tiles of codes (four strips of 20 tiles) and one slab of scales. -/

namespace Cert.Pieces

open Idealize.ShloMosaic Idealize.ShloMosaic.TcCoe Idealize.ShloMosaic.Tactic Cert.KernelIdeal Cert.KernelIdeal.Gen Cert.Tile

variable {F : FTy → Type} [FloatOps F] [Named F]

/-- The offsets of trip `k`'s 80 accesses of a strip's tile, in the order of the loop's body. -/
def offs (k : Fin k0_t1_loop.trips) : Fin 80 → Fin 3 → ℕ :=
  ![k0_off1 k, k0_off2 k, k0_off3 k, k0_off4 k, k0_off5 k, k0_off6 k, k0_off7 k, k0_off8 k, k0_off9 k, k0_off10 k,
    k0_off11 k, k0_off12 k, k0_off13 k, k0_off14 k, k0_off15 k, k0_off16 k, k0_off17 k, k0_off18 k, k0_off19 k, k0_off20 k,
    k0_off21 k, k0_off22 k, k0_off23 k, k0_off24 k, k0_off25 k, k0_off26 k, k0_off27 k, k0_off28 k, k0_off29 k, k0_off30 k,
    k0_off31 k, k0_off32 k, k0_off33 k, k0_off34 k, k0_off35 k, k0_off36 k, k0_off37 k, k0_off38 k, k0_off39 k, k0_off40 k,
    k0_off41 k, k0_off42 k, k0_off43 k, k0_off44 k, k0_off45 k, k0_off46 k, k0_off47 k, k0_off48 k, k0_off49 k, k0_off50 k,
    k0_off51 k, k0_off52 k, k0_off53 k, k0_off54 k, k0_off55 k, k0_off56 k, k0_off57 k, k0_off58 k, k0_off59 k, k0_off60 k,
    k0_off61 k, k0_off62 k, k0_off63 k, k0_off64 k, k0_off65 k, k0_off66 k, k0_off67 k, k0_off68 k, k0_off69 k, k0_off70 k,
    k0_off71 k, k0_off72 k, k0_off73 k, k0_off74 k, k0_off75 k, k0_off76 k, k0_off77 k, k0_off78 k, k0_off79 k, k0_off80 k]

/-- They are batch `k`, strip by strip and tile by tile. -/
theorem offs_eq : ∀ (k : Fin k0_t1_loop.trips) (j : Fin 80), offs k j = ![k.val, 32 * (j.val / 20), 128 * (j.val % 20)] := by
  decide +kernel

theorem offs_inb (k : Fin k0_t1_loop.trips) (j : Fin 80) (a : Fin 3) : offs k j a + S1x32x128.size a ≤ S8x128x2560.size a := by
  have hk : k.val < 8 := Nat.lt_of_lt_of_le k.isLt k0_t1_abs.2.1
  have hj := j.isLt
  rw [offs_eq]
  fin_cases a
  · show k.val + 1 ≤ 8; omega
  · show 32 * (j.val / 20) + 32 ≤ 128; omega
  · show 128 * (j.val % 20) + 128 ≤ 2560; omega

theorem goff_inb (n : Fin 20) (a : Fin 2) : (![0, 128 * n.val] : Fin 2 → ℕ) a + S1x128.size a ≤ S1x2560.size a := by
  have hn := n.isLt
  fin_cases a
  · show 0 + 1 ≤ 1; omega
  · show 128 * n.val + 128 ≤ 2560; omega

section
variable (arg1 : Memref sig .tc .vmem S8x128x2560 .bf16) (arg2 : Memref sig .tc .vmem S1x2560 .f32)
  (X_arg1 : BufTy.Contents (Elt F) arg1.view.ty) (X_arg2 : BufTy.Contents (Elt F) arg2.view.ty) (k : Fin k0_t1_loop.trips)

/-- Access `j`'s tile of the input. -/
def tileAt (j : Fin 80) : Vec F S1x32x128 .bf16 :=
  arg1.view.readAt (Elt F) (Rect.unit (s := S8x128x2560) (offs k j) S1x32x128.size (offs_inb k j)).toLoadRect X_arg1

/-- The 20 tiles of strip `r`. -/
def strip (r : Fin 4) (n : Fin 20) : Vec F S1x32x128 .bf16 := tileAt arg1 X_arg1 k ⟨20 * r.val + n.val, by omega⟩

/-- The weights of tile `n`. -/
def weights (n : Fin 20) : Vec F S1x128 .f32 :=
  arg2.view.readAt (Elt F) (Rect.unit (s := S1x2560) ![0, 128 * n.val] S1x128.size (goff_inb n)).toLoadRect X_arg2

/-- Store `j` of a trip: the codes of tile `j % 20` of strip `j / 20`, at the tile's place. -/
def codePiece (j : Fin 80) : View.Piece (Elt F) S8x128x2560 .fp8e4m3 :=
  ⟨Rect.unit (s := S8x128x2560) (offs k j) S1x32x128.size (offs_inb k j),
    codes (yTile (strip arg1 X_arg1 k ⟨j.val / 20, by omega⟩) (weights arg2 X_arg2) ⟨j.val % 20, by omega⟩)⟩

/-- The trip's store of scales. -/
def scalePiece : View.Piece (Elt F) S20x8x128 .f32 :=
  ⟨Rect.unit (s := S20x8x128) (k0_off81 k) S20x1x128.size (k0_off81_inb k),
    scales fun r => gathered (strip arg1 X_arg1 k r) (weights arg2 X_arg2) 20 le_rfl⟩

end

section
variable (𝒱 : Variants) (c : Dev nD) (bd : Option 𝒱.V) (i : grid0.Coords) (arg1 : Memref sig .tc .vmem S8x128x2560 .bf16) (harg1 : arg1.IsWhole) (arg2 : Memref sig .tc .vmem S1x2560 .f32) (harg2 : arg2.IsWhole) (arg3 : Memref sig .tc .vmem S8x128x2560 .fp8e4m3) (harg3 : arg3.IsWhole) (arg4 : Memref sig .tc .vmem S20x8x128 .f32) (harg4 : arg4.IsWhole)
  (X_arg1 : BufTy.Contents (Elt F) arg1.view.ty) (X_arg2 : BufTy.Contents (Elt F) arg2.view.ty) (k : Fin k0_t1_loop.trips)

/-- A trip's stores of codes are the 80 tiles, last first. -/
theorem trip_codes : (trip_k0_t1 (F := F) 𝒱 c bd i arg1 harg1 arg2 harg2 arg3 harg3 arg4 harg4 X_arg1 X_arg2 k).1
    = List.ofFn fun j : Fin 80 => codePiece arg1 arg2 X_arg1 X_arg2 k j.rev := by
  unfold trip_k0_t1
  sl_kernel_rfl

/-- A trip's store of scales is the four strips' gathered scales. -/
theorem trip_scales : (trip_k0_t1 (F := F) 𝒱 c bd i arg1 harg1 arg2 harg2 arg3 harg3 arg4 harg4 X_arg1 X_arg2 k).2.1
    = [scalePiece arg1 arg2 X_arg1 X_arg2 k] := by
  unfold trip_k0_t1
  sl_kernel_rfl

end

end Cert.Pieces

end
-- ==== Proof.Block.lean ====
module

public import proofs.«01_k».proof.Proof.Pieces
public import Idealize.ShloMosaic.Lib.Pipeline.Value
public import Idealize.ShloMosaic.Lib.ValueIdxCore

@[expose] public section

set_option maxRecDepth 16384

noncomputable section

/-! What the kernel's body leaves in its two output blocks, as functions of its input block and of the weights. -/

namespace Cert.Block

open Idealize.ShloMosaic Idealize.ShloMosaic.TcCoe Idealize.ShloMosaic.ValueIdx Cert.KernelIdeal Cert.KernelIdeal.Gen Cert.Tile Cert.Pieces

variable {F : FTy → Type} [FloatOps F] [Named F]

/-- The 20 tiles of strip `r` of batch `b` of a block. -/
def stripOf (x0 : Vec F S8x128x2560 .bf16) (b : Fin 8) (r : Fin 4) (n : Fin 20) : Vec F S1x32x128 .bf16 :=
  fun y => x0 (ix3 b ⟨32 * r.val + (y 1).val, by have h : (y 1).val < 32 := (y 1).isLt; omega⟩
    ⟨128 * n.val + (y 2).val, by have h : (y 2).val < 128 := (y 2).isLt; omega⟩)

/-- The weights of tile `n`. -/
def weightsOf (x1 : Vec F S1x2560 .f32) (n : Fin 20) : Vec F S1x128 .f32 :=
  fun y => x1 (ix2 ⟨0, by decide⟩ ⟨128 * n.val + (y 1).val, by have h : (y 1).val < 128 := (y 1).isLt; omega⟩)

/-- The block of codes. -/
def codesBlock (x0 : Vec F S8x128x2560 .bf16) (x1 : Vec F S1x2560 .f32) : Vec F S8x128x2560 .fp8e4m3 :=
  fun y => codes (yTile (stripOf x0 ⟨(y 0).val, (y 0).isLt⟩ ⟨(y 1).val / 32, by have h : (y 1).val < 128 := (y 1).isLt; omega⟩) (weightsOf x1)
      ⟨(y 2).val / 128, by have h : (y 2).val < 2560 := (y 2).isLt; omega⟩)
    (ix3 ⟨0, by decide⟩ ⟨(y 1).val % 32, by omega⟩ ⟨(y 2).val % 128, by omega⟩)

/-- The block of scales. -/
def scalesBlock (x0 : Vec F S8x128x2560 .bf16) (x1 : Vec F S1x2560 .f32) : Vec F S20x8x128 .f32 :=
  fun y => scales (fun r => gathered (stripOf x0 ⟨(y 1).val, (y 1).isLt⟩ r) (weightsOf x1) 20 le_rfl) (ix3 ⟨(y 0).val, (y 0).isLt⟩ ⟨0, by decide⟩ ⟨(y 2).val, (y 2).isLt⟩)

theorem codesBlock_at (x0 : Vec F S8x128x2560 .bf16) (x1 : Vec F S1x2560 .f32) (y : S8x128x2560.Idx) (b : Fin 8) (r : Fin 4) (n : Fin 20) (x : S1x32x128.Idx)
    (h0 : (y 0).val = b.val) (h1 : (y 1).val = 32 * r.val + (x 1).val) (h2 : (y 2).val = 128 * n.val + (x 2).val) :
    codes (yTile (stripOf x0 b r) (weightsOf x1) n) x = codesBlock x0 x1 y := by
  have hx0 : (x 0).val < 1 := (x 0).isLt
  have hx1 : (x 1).val < 32 := (x 1).isLt
  have hx2 : (x 2).val < 128 := (x 2).isLt
  unfold codesBlock
  have eb : (⟨(y 0).val, (y 0).isLt⟩ : Fin 8) = b := Fin.ext h0
  have er : (⟨(y 1).val / 32, by have h : (y 1).val < 128 := (y 1).isLt; omega⟩ : Fin 4) = r := Fin.ext (by show (y 1).val / 32 = r.val; omega)
  have en : (⟨(y 2).val / 128, by have h : (y 2).val < 2560 := (y 2).isLt; omega⟩ : Fin 20) = n := Fin.ext (by show (y 2).val / 128 = n.val; omega)
  rw [eb, er, en]
  congr 1
  funext a
  match a with
  | ⟨0, _⟩ => apply Fin.ext; show (x 0).val = 0; omega
  | ⟨1, _⟩ => apply Fin.ext; show (x 1).val = (y 1).val % 32; omega
  | ⟨2, _⟩ => apply Fin.ext; show (x 2).val = (y 2).val % 128; omega

theorem scalesBlock_at (x0 : Vec F S8x128x2560 .bf16) (x1 : Vec F S1x2560 .f32) (y : S20x8x128.Idx) (b : Fin 8) (x : S20x1x128.Idx)
    (h0 : (y 0).val = (x 0).val) (h1 : (y 1).val = b.val) (h2 : (y 2).val = (x 2).val) :
    scales (fun r => gathered (stripOf x0 b r) (weightsOf x1) 20 le_rfl) x = scalesBlock x0 x1 y := by
  have hx1 : (x 1).val < 1 := (x 1).isLt
  unfold scalesBlock
  have eb : (⟨(y 1).val, (y 1).isLt⟩ : Fin 8) = b := Fin.ext h1
  rw [eb]
  congr 1
  funext a
  match a with
  | ⟨0, _⟩ => apply Fin.ext; exact h0.symm
  | ⟨1, _⟩ => apply Fin.ext; show (x 1).val = 0; omega
  | ⟨2, _⟩ => apply Fin.ext; exact h2.symm

section
variable (arg1 : Memref sig .tc .vmem S8x128x2560 .bf16) (harg1 : arg1.IsWhole) (arg2 : Memref sig .tc .vmem S1x2560 .f32) (harg2 : arg2.IsWhole)
  (x0 : Vec F S8x128x2560 .bf16) (x1 : Vec F S1x2560 .f32)

theorem trips_lt (k : Fin k0_t1_loop.trips) : k.val < 8 := Nat.lt_of_lt_of_le k.isLt k0_t1_abs.2.1

/-- A trip's strips, read off the block. -/
theorem strip_eq (k : Fin k0_t1_loop.trips) (r : Fin 4) : strip arg1 (harg1.unread x0) k r = stripOf x0 ⟨k.val, trips_lt k⟩ r := by
  funext n y
  unfold strip tileAt
  rw [View.readAt_apply, harg1.read_unread]
  have hy0 : (y 0).val < 1 := (y 0).isLt
  refine congrArg x0 (funext fun a => Fin.ext ?_)
  have e := offs_eq k ⟨20 * r.val + n.val, by omega⟩
  have hd : (20 * r.val + n.val) / 20 = r.val := by omega
  have hm : (20 * r.val + n.val) % 20 = n.val := by omega
  dsimp only at e
  rw [hd, hm] at e
  show offs k ⟨20 * r.val + n.val, _⟩ a + 1 * (y a).val = _
  rw [e]
  match a with
  | ⟨0, _⟩ => show k.val + 1 * (y 0).val = k.val; omega
  | ⟨1, _⟩ => show 32 * r.val + 1 * (y 1).val = 32 * r.val + (y 1).val; omega
  | ⟨2, _⟩ => show 128 * n.val + 1 * (y 2).val = 128 * n.val + (y 2).val; omega

/-- The weights' tiles, read off the weights' block. -/
theorem weights_eq : weights arg2 (harg2.unread x1) = weightsOf x1 := by
  funext n y
  unfold weights
  rw [View.readAt_apply, harg2.read_unread]
  have hy0 : (y 0).val < 1 := (y 0).isLt
  refine congrArg x1 (funext fun a => Fin.ext ?_)
  match a with
  | ⟨0, _⟩ => show 0 + 1 * (y 0).val = 0; omega
  | ⟨1, _⟩ => show 128 * n.val + 1 * (y 1).val = 128 * n.val + (y 1).val; omega

/-- Every store of codes of a trip is the block of codes at the store's place. -/
theorem codePiece_agrees (k : Fin k0_t1_loop.trips) (j : Fin 80) (x : S1x32x128.Idx) :
    (codePiece arg1 arg2 (harg1.unread x0) (harg2.unread x1) k j).2 x
      = codesBlock x0 x1 ((codePiece arg1 arg2 (harg1.unread x0) (harg2.unread x1) k j).1.emb x) := by
  have hx0 : (x 0).val < 1 := (x 0).isLt
  show codes (yTile (strip arg1 (harg1.unread x0) k ⟨j.val / 20, _⟩) (weights arg2 (harg2.unread x1)) ⟨j.val % 20, _⟩) x = _
  rw [strip_eq, weights_eq]
  have e := offs_eq k j
  refine codesBlock_at x0 x1 _ _ _ _ x ?_ ?_ ?_
  · show offs k j 0 + 1 * (x 0).val = k.val
    rw [e]; show k.val + 1 * (x 0).val = k.val; omega
  · show offs k j 1 + 1 * (x 1).val = 32 * (j.val / 20) + (x 1).val
    rw [e]; show 32 * (j.val / 20) + 1 * (x 1).val = _; omega
  · show offs k j 2 + 1 * (x 2).val = 128 * (j.val % 20) + (x 2).val
    rw [e]; show 128 * (j.val % 20) + 1 * (x 2).val = _; omega

/-- A trip's store of scales is the block of scales at the store's place. -/
theorem scalePiece_agrees (k : Fin k0_t1_loop.trips) (x : S20x1x128.Idx) :
    (scalePiece arg1 arg2 (harg1.unread x0) (harg2.unread x1) k).2 x
      = scalesBlock x0 x1 ((scalePiece arg1 arg2 (harg1.unread x0) (harg2.unread x1) k).1.emb x) := by
  have hx1 : (x 1).val < 1 := (x 1).isLt
  show scales (fun r => gathered (strip arg1 (harg1.unread x0) k r) (weights arg2 (harg2.unread x1)) 20 le_rfl) x = _
  simp only [strip_eq, weights_eq]
  have e := k0_off81_eq k
  refine scalesBlock_at x0 x1 _ _ x ?_ ?_ ?_
  · show k0_off81 k 0 + 1 * (x 0).val = (x 0).val
    rw [e]; show 0 + 1 * (x 0).val = _; omega
  · show k0_off81 k 1 + 1 * (x 1).val = k.val
    rw [e]; show k.val + 1 * (x 1).val = _; omega
  · show k0_off81 k 2 + 1 * (x 2).val = (x 2).val
    rw [e]; show 0 + 1 * (x 2).val = _; omega

end

section
variable (c : Dev nD) (i : grid0.Coords) (arg1 : Memref sig .tc .vmem S8x128x2560 .bf16) (harg1 : arg1.IsWhole) (arg2 : Memref sig .tc .vmem S1x2560 .f32) (harg2 : arg2.IsWhole) (arg3 : Memref sig .tc .vmem S8x128x2560 .fp8e4m3) (harg3 : arg3.IsWhole) (arg4 : Memref sig .tc .vmem S20x8x128 .f32) (harg4 : arg4.IsWhole)
  (x0 : Vec F S8x128x2560 .bf16) (x1 : Vec F S1x2560 .f32)

/-- Every store of the first `n` trips agrees with the two blocks. -/
theorem stores_agree (n : ℕ) (hn : n ≤ k0_t1_loop.trips) :
    (∀ p ∈ (pb_k0_t1 (F := F) Variants.none c none i arg1 harg1 arg2 harg2 arg3 harg3 arg4 harg4 (harg1.unread x0) (harg2.unread x1) n).1,
        ∀ x, p.2 x = codesBlock x0 x1 (p.1.emb x))
      ∧ ∀ p ∈ (pb_k0_t1 (F := F) Variants.none c none i arg1 harg1 arg2 harg2 arg3 harg3 arg4 harg4 (harg1.unread x0) (harg2.unread x1) n).2,
        ∀ x, p.2 x = scalesBlock x0 x1 (p.1.emb x) := by
  induction n with
  | zero =>
    rw [pb_k0_t1.eq_1]
    dsimp only
    exact ⟨fun p hp => (List.not_mem_nil hp).elim, fun p hp => (List.not_mem_nil hp).elim⟩
  | succ n ih =>
    have h := pb_k0_t1_succ (F := F) Variants.none c none i arg1 harg1 arg2 harg2 arg3 harg3 arg4 harg4 (harg1.unread x0) (harg2.unread x1) ⟨n, hn⟩
    have h1 := trip_codes (F := F) Variants.none c none i arg1 harg1 arg2 harg2 arg3 harg3 arg4 harg4 (harg1.unread x0) (harg2.unread x1) ⟨n, hn⟩
    have h2 := trip_scales (F := F) Variants.none c none i arg1 harg1 arg2 harg2 arg3 harg3 arg4 harg4 (harg1.unread x0) (harg2.unread x1) ⟨n, hn⟩
    obtain ⟨ih1, ih2⟩ := ih (Nat.le_of_succ_le hn)
    constructor
    · intro p hp
      rcases List.mem_append.mp (Eq.mp (congrArg (fun l => p ∈ Prod.fst l) h) hp) with hp | hp
      · obtain ⟨j, rfl⟩ := List.mem_ofFn.mp (Eq.mp (congrArg (fun l => p ∈ l) h1) hp)
        exact codePiece_agrees arg1 harg1 arg2 harg2 x0 x1 _ _
      · exact ih1 p hp
    · intro p hp
      rcases List.mem_append.mp (Eq.mp (congrArg (fun l => p ∈ Prod.snd l) h) hp) with hp | hp
      · obtain rfl := List.mem_singleton.mp (Eq.mp (congrArg (fun l => p ∈ l) h2) hp)
        exact scalePiece_agrees arg1 harg1 arg2 harg2 x0 x1 _
      · exact ih2 p hp

/-- The body leaves the block of codes in its first output. -/
theorem out_codes : out0_A_2 c i arg1 harg1 arg2 harg2 arg3 harg3 arg4 harg4 x0 x1 = codesBlock x0 x1 := by
  unfold out0_A_2
  have hcov := cover0_A_2 c i arg1 harg1 arg2 harg2 arg3 harg3 arg4 harg4 x0 x1
  rw [View.read_writes_eq_canon _ _ _ hcov]
  funext y
  refine View.canon_apply_of_pieces _ _ ?_ y (hcov y)
  unfold kernelRun0_A
  exact (stores_agree c i arg1 harg1 arg2 harg2 arg3 harg3 arg4 harg4 x0 x1 _ le_rfl).1

/-- The body leaves the block of scales in its second output. -/
theorem out_scales : out0_A_3 c i arg1 harg1 arg2 harg2 arg3 harg3 arg4 harg4 x0 x1 = scalesBlock x0 x1 := by
  unfold out0_A_3
  have hcov := cover0_A_3 c i arg1 harg1 arg2 harg2 arg3 harg3 arg4 harg4 x0 x1
  rw [View.read_writes_eq_canon _ _ _ hcov]
  funext y
  refine View.canon_apply_of_pieces _ _ ?_ y (hcov y)
  unfold kernelRun0_A
  exact (stores_agree c i arg1 harg1 arg2 harg2 arg3 harg3 arg4 harg4 x0 x1 _ le_rfl).2

end

end Cert.Block

end
-- ==== Proof.Arrays.lean ====
module

public import proofs.«01_k».proof.Proof.Block
public import Idealize.ShloMosaic.Lib.Pipeline.ValueKit

@[expose] public section

set_option maxRecDepth 16384

noncomputable section

/-! What the kernel's two result arrays hold after the grid, as functions of the argument arrays. -/

namespace Cert.Arrays

open Idealize.ShloMosaic hiding ix1 ix2 ix3 ix4
open Idealize.ShloMosaic.TcCoe Idealize.ShloMosaic.ValueIdx Idealize.SL.Sem Cert.KernelIdeal Cert.KernelIdeal.Gen Cert.Tile Cert.Block

variable {F : FTy → Type} [FloatOps F] [Named F]

/-- The 20 tiles of strip `s` (rows `32 s … 32 s + 31`) of batch `b`. -/
def rowStrip (X : Vec F S8x4096x2560 .bf16) (b : Fin 8) (s : Fin 128) (n : Fin 20) : Vec F S1x32x128 .bf16 :=
  fun y => X (ix3 b ⟨32 * s.val + (y 1).val, by have h : (y 1).val < 32 := (y 1).isLt; omega⟩
    ⟨128 * n.val + (y 2).val, by have h : (y 2).val < 128 := (y 2).isLt; omega⟩)

/-- The array of codes: at batch `b`, row `r`, column `d`, the code at row `r % 32` and column `d % 128` of the tile it lies in. -/
def codesArr (X : Vec F S8x4096x2560 .bf16) (W : Vec F S1x2560 .f32) : Vec F S8x4096x2560 .fp8e4m3 :=
  fun i => codes (yTile (rowStrip X ⟨(i 0).val, (i 0).isLt⟩ ⟨(i 1).val / 32, by have h : (i 1).val < 4096 := (i 1).isLt; omega⟩) (weightsOf W)
      ⟨(i 2).val / 128, by have h : (i 2).val < 2560 := (i 2).isLt; omega⟩)
    (ix3 ⟨0, by decide⟩ ⟨(i 1).val % 32, by omega⟩ ⟨(i 2).val % 128, by omega⟩)

/-- The array of scales, tile by batch by row. -/
def scalesArr (X : Vec F S8x4096x2560 .bf16) (W : Vec F S1x2560 .f32) : Vec F S20x8x4096 .f32 :=
  fun i => scales (fun r => gathered (rowStrip X ⟨(i 1).val, (i 1).isLt⟩
      ⟨4 * ((i 2).val / 128) + r.val, by have h : (i 2).val < 4096 := (i 2).isLt; omega⟩) (weightsOf W) 20 le_rfl)
    (ix3 ⟨(i 0).val, (i 0).isLt⟩ ⟨0, by decide⟩ ⟨(i 2).val % 128, by omega⟩)

/-- A block's strips are the array's. -/
theorem stripOf_block (X : Vec F S8x4096x2560 .bf16) (x0 : Vec F S8x128x2560 .bf16) (t : Fin 32)
    (hx : ∀ y : S8x128x2560.Idx, x0 y = X (ix3 ⟨(y 0).val, (y 0).isLt⟩ ⟨128 * t.val + (y 1).val, by have h : (y 1).val < 128 := (y 1).isLt; omega⟩ ⟨(y 2).val, (y 2).isLt⟩))
    (b : Fin 8) (r : Fin 4) : stripOf x0 b r = rowStrip X b ⟨4 * t.val + r.val, by omega⟩ := by
  funext n y
  unfold stripOf rowStrip
  rw [hx]
  refine congrArg X (funext fun a => Fin.ext ?_)
  match a with
  | ⟨0, _⟩ => rfl
  | ⟨1, _⟩ => show 128 * t.val + (32 * r.val + (y 1).val) = 32 * (4 * t.val + r.val) + (y 1).val; omega
  | ⟨2, _⟩ => rfl

theorem codesBlock_block (X : Vec F S8x4096x2560 .bf16) (W : Vec F S1x2560 .f32) (x0 : Vec F S8x128x2560 .bf16) (t : Fin 32)
    (hx : ∀ y : S8x128x2560.Idx, x0 y = X (ix3 ⟨(y 0).val, (y 0).isLt⟩ ⟨128 * t.val + (y 1).val, by have h : (y 1).val < 128 := (y 1).isLt; omega⟩ ⟨(y 2).val, (y 2).isLt⟩))
    (y : S8x128x2560.Idx) (i : S8x4096x2560.Idx) (h0 : (i 0).val = (y 0).val) (h1 : (i 1).val = 128 * t.val + (y 1).val) (h2 : (i 2).val = (y 2).val) :
    codesBlock x0 W y = codesArr X W i := by
  have hy : (y 1).val < 128 := (y 1).isLt
  unfold codesBlock codesArr
  rw [stripOf_block X x0 t hx]
  have e0 : (⟨(i 0).val, (i 0).isLt⟩ : Fin 8) = ⟨(y 0).val, (y 0).isLt⟩ := Fin.ext h0
  have e1 : (⟨(i 1).val / 32, by have h : (i 1).val < 4096 := (i 1).isLt; omega⟩ : Fin 128) = ⟨4 * t.val + (y 1).val / 32, by omega⟩ :=
    Fin.ext (by show (i 1).val / 32 = 4 * t.val + (y 1).val / 32; omega)
  have e2 : (⟨(i 2).val / 128, by have h : (i 2).val < 2560 := (i 2).isLt; omega⟩ : Fin 20) = ⟨(y 2).val / 128, by have h : (y 2).val < 2560 := (y 2).isLt; omega⟩ :=
    Fin.ext (by show (i 2).val / 128 = (y 2).val / 128; omega)
  have e3 : (⟨(i 1).val % 32, by omega⟩ : Fin 32) = ⟨(y 1).val % 32, by omega⟩ := Fin.ext (by show (i 1).val % 32 = (y 1).val % 32; omega)
  have e4 : (⟨(i 2).val % 128, by omega⟩ : Fin 128) = ⟨(y 2).val % 128, by omega⟩ := Fin.ext (by show (i 2).val % 128 = (y 2).val % 128; omega)
  rw [e0, e1, e2, e3, e4]

theorem scalesBlock_block (X : Vec F S8x4096x2560 .bf16) (W : Vec F S1x2560 .f32) (x0 : Vec F S8x128x2560 .bf16) (t : Fin 32)
    (hx : ∀ y : S8x128x2560.Idx, x0 y = X (ix3 ⟨(y 0).val, (y 0).isLt⟩ ⟨128 * t.val + (y 1).val, by have h : (y 1).val < 128 := (y 1).isLt; omega⟩ ⟨(y 2).val, (y 2).isLt⟩))
    (y : S20x8x128.Idx) (i : S20x8x4096.Idx) (h0 : (i 0).val = (y 0).val) (h1 : (i 1).val = (y 1).val) (h2 : (i 2).val = 128 * t.val + (y 2).val) :
    scalesBlock x0 W y = scalesArr X W i := by
  have hy : (y 2).val < 128 := (y 2).isLt
  unfold scalesBlock scalesArr
  simp only [stripOf_block X x0 t hx]
  have e0 : (⟨(i 0).val, (i 0).isLt⟩ : Fin 20) = ⟨(y 0).val, (y 0).isLt⟩ := Fin.ext h0
  have e1 : (⟨(i 1).val, (i 1).isLt⟩ : Fin 8) = ⟨(y 1).val, (y 1).isLt⟩ := Fin.ext h1
  have e2 : (⟨(i 2).val % 128, by omega⟩ : Fin 128) = ⟨(y 2).val, (y 2).isLt⟩ := Fin.ext (by show (i 2).val % 128 = (y 2).val; omega)
  have e3 : ∀ r : Fin 4, (⟨4 * ((i 2).val / 128) + r.val, by have h : (i 2).val < 4096 := (i 2).isLt; omega⟩ : Fin 128) = ⟨4 * t.val + r.val, by omega⟩ :=
    fun r => Fin.ext (by show 4 * ((i 2).val / 128) + r.val = 4 * t.val + r.val; omega)
  rw [e0, e1, e2]
  simp only [e3]

variable (m : (ℓ : Loc nD τ sig) → Buf (Elt F) ℓ) (ρ : Dev nD → PrngReg)

theorem point_lt (t : Fin cfg0.N) : t.val < 32 := t.isLt

theorem index_0 : ∀ t : Fin cfg0.N, win0_0.index t = ![0, t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, t.val, 0] := (by decide +kernel : ∀ t : Fin grid0.N, _)
theorem index_3 : ∀ t : Fin cfg0.N, win0_3.index t = ![0, 0, t.val] := (by decide +kernel : ∀ t : Fin grid0.N, _)

/-- The input block at point `t`: 128 rows of the array. -/
theorem block_x (c : Dev nD) (t : Fin cfg0.N) (y : S8x128x2560.Idx) :
    (iblk m c 0 t : Vec F S8x128x2560 .bf16) y = (V m c main_arg0 : Vec F S8x4096x2560 .bf16) (ix3 ⟨(y 0).val, (y 0).isLt⟩
      ⟨128 * t.val + (y 1).val, by have h : (y 1).val < 128 := (y 1).isLt; have := point_lt t; omega⟩ ⟨(y 2).val, (y 2).isLt⟩) := by
  blk_simp [iblk]
  refine congrArg (V m c main_arg0 : Vec F S8x4096x2560 .bf16) (funext fun a => Fin.ext ?_)
  fin_cases a
  · blk_simp [index_0]; rfl
  · blk_simp [index_0]; show t.val * 128 + (y 1).val = 128 * t.val + (y 1).val; omega
  · blk_simp [index_0]; rfl

/-- The weights' block at every point: all of them. -/
theorem block_w (c : Dev nD) (t : Fin cfg0.N) : (iblk m c 1 t : Vec F S1x2560 .f32) = (V m c main_v1 : Vec F S1x2560 .f32) := by
  funext y
  blk_simp [iblk]
  refine congrArg (V m c main_v1 : Vec F S1x2560 .f32) (funext fun a => Fin.ext ?_)
  fin_cases a
  · blk_simp [index_1]
  · blk_simp [index_1]

theorem final_codes (c : Dev nD) : (dats m 0 c).arrAt 2 cfg0.N = codesArr (V m c main_arg0) (V m c main_v1) := by
  refine (dats m 0 c).arrAt_eq_of_covers 2 _ (by decide +kernel) fun t hf y => ?_
  blk_simp
  rw [after0_2]
  unfold outsAt0
  dsimp only
  rw [out_codes, block_w]
  refine codesBlock_block _ _ _ ⟨t.val, point_lt t⟩ (block_x m c t) y _ ?_ ?_ ?_
  · blk_simp [index_2]
  · blk_simp [index_2]; show t.val * 128 + (y 1).val = 128 * t.val + (y 1).val; omega
  · blk_simp [index_2]

theorem final_scales (c : Dev nD) : (dats m 0 c).arrAt 3 cfg0.N = scalesArr (V m c main_arg0) (V m c main_v1) := by
  refine (dats m 0 c).arrAt_eq_of_covers 3 _ (by decide +kernel) fun t hf y => ?_
  blk_simp
  rw [after0_3]
  unfold outsAt0
  dsimp only
  rw [out_scales, block_w]
  refine scalesBlock_block _ _ _ ⟨t.val, point_lt t⟩ (block_x m c t) y _ ?_ ?_ ?_
  · blk_simp [index_3]
  · blk_simp [index_3]
  · blk_simp [index_3]; show t.val * 128 + (y 2).val = 128 * t.val + (y 2).val; omega

/-- The weights as the grid finds them: the weights argument, as one row of single-precision numbers. -/
theorem entry_w (c : Dev nD) : V m c main_v1
    = shapeCast S1x2560 (extf .f32 (m ((c.tc : Thread nD τ).loc main_arg1)) bitsLt_bf16_f32) shapeCasts_S2560_S1x2560 := by
  show V0 m c (Proc.devRef .tc main_v1) = _
  simp only [V0, hostOps0, List.flatten_cons, List.flatten_nil, List.append_nil, List.cons_append, List.nil_append]
  after_results_simp <;> rfl

/-- The last operation: the scales' transpose. -/
theorem tail_scales (V0 : Valuation τ sig (Elt F)) :
    StableHlo.after (List.flatten [hostOps1]) V0 (Proc.devRef .tc main_v3)
      = transpose S8x4096x20 [1, 2, 0] (V0 (Proc.devRef .tc main_v2_1)) transposes_S20x8x4096_S8x4096x20_1_2_0 := by
  simp only [hostOps1, List.flatten_cons, List.flatten_nil, List.append_nil, List.cons_append, List.nil_append]
  after_results <;> rfl

/-- The kernel's run: its results as functions of its arguments, the arguments unchanged. -/
theorem run : θ_run defs (onTc (τ := τ) (main (F := F))) ⟨m, fun _ => 0, ρ⟩ (fun r => ∀ c : Dev nD,
      r.2.mem ((c.tc : Thread nD τ).loc main_v2_0)
        = codesArr (m ((c.tc : Thread nD τ).loc main_arg0))
            (shapeCast S1x2560 (extf .f32 (m ((c.tc : Thread nD τ).loc main_arg1)) bitsLt_bf16_f32) shapeCasts_S2560_S1x2560)
      ∧ r.2.mem ((c.tc : Thread nD τ).loc main_v3)
        = transpose S8x4096x20 [1, 2, 0] (scalesArr (m ((c.tc : Thread nD τ).loc main_arg0))
            (shapeCast S1x2560 (extf .f32 (m ((c.tc : Thread nD τ).loc main_arg1)) bitsLt_bf16_f32) shapeCasts_S2560_S1x2560))
            transposes_S20x8x4096_S8x4096x20_1_2_0
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hframe := unchanged m ρ
  refine (θ_run defs _ _).mono (fun r h c => ?_) (θ_run_and (run_main m ρ) hframe)
  obtain ⟨h, hf⟩ := h
  refine ⟨?_, ?_, (hf c).1, (hf c).2⟩
  · rw [← entry_w m c, ← V_main_arg0 m c]
    exact ((h c).1 2).trans (final_codes m c)
  · rw [← entry_w m c, ← V_main_arg0 m c, ← final_scales m c]
    refine ((h c).2 main_v3 (Pipeline.mem_restRefs_of main_v3 (by decide) (by decide))).trans ((tail_scales _).trans ?_)
    refine congrArg (fun v => transpose S8x4096x20 [1, 2, 0] v transposes_S20x8x4096_S8x4096x20_1_2_0) ?_
    exact Pipeline.withArrays_arr spec0 launch0.win.arr_inj c (V0 m c) _ 3

end Cert.Arrays

end
-- ==== Proof.Exponent.lean ====
/- The block exponent: the least power of two above a number, found in two ways. -/
module

public import Idealize.ShloMosaic.PureOps.Ideal.Laws
public import Idealize.ShloMosaic.Lib.IndicatorCount

@[expose] public section

noncomputable section

namespace Cert.Exponent

open Idealize.ShloMosaic

/-- The power of two with an integer exponent, as an extended real. -/
def pow2 (k : ℤ) : EReal := (((2 : ℝ) ^ k : ℝ) : EReal)

theorem pow2_mono {a b : ℤ} (h : a ≤ b) : pow2 a ≤ pow2 b :=
  EReal.coe_le_coe_iff.2 (zpow_le_zpow_right₀ (by norm_num) h)

/-- How many of the powers of two from `2 ^ (-126)` to `2 ^ 125` are not above `q`. -/
def below (q : EReal) : ℕ := (Finset.univ.filter fun c : Fin 252 => pow2 ((c : ℤ) - 126) ≤ q).card

/-- The least `e` with `q < 2 ^ e`, brought between `-126` and `126`. -/
def expo (q : EReal) : ℤ := (below q : ℤ) - 126

theorem below_le (q : EReal) : below q ≤ 252 := by
  unfold below
  exact (Finset.card_le_univ _).trans (by simp)

/-- The powers of two not above `q` are the first `below q` ones. -/
theorem pow2_le_iff (q : EReal) (c : Fin 252) : pow2 ((c : ℤ) - 126) ≤ q ↔ (c : ℕ) < below q := by
  have key : ∀ c : Fin 252, pow2 ((c : ℤ) - 126) ≤ q → (c : ℕ) < below q := by
    intro c h
    have hs : (Finset.univ.filter fun d : Fin 252 => d ≤ c) ⊆ Finset.univ.filter fun d : Fin 252 => pow2 ((d : ℤ) - 126) ≤ q := by
      intro d hd
      simp only [Finset.mem_filter, Finset.mem_univ, true_and] at hd ⊢
      exact (pow2_mono (by have : (d : ℕ) ≤ c := hd; omega)).trans h
    have hc := Finset.card_le_card hs
    have h1 : (Finset.univ.filter fun d : Fin 252 => d ≤ c) = Finset.Iic c := by ext; simp
    rw [h1, Fin.card_Iic] at hc
    exact hc
  refine ⟨key c, fun h => ?_⟩
  by_contra hn
  have hs : (Finset.univ.filter fun d : Fin 252 => pow2 ((d : ℤ) - 126) ≤ q) ⊆ Finset.univ.filter fun d : Fin 252 => d < c := by
    intro d hd
    simp only [Finset.mem_filter, Finset.mem_univ, true_and] at hd ⊢
    by_contra hdc
    exact hn ((pow2_mono (by have : (c : ℕ) ≤ d := not_lt.1 hdc; omega)).trans hd)
  have hc := Finset.card_le_card hs
  have h1 : (Finset.univ.filter fun d : Fin 252 => d < c) = Finset.Iio c := by ext; simp
  rw [h1, Fin.card_Iio] at hc
  exact absurd h (not_lt.2 hc)

/-- The least exponent, as a minimum over the exponents from `-126` to `126` in which an exponent whose power
    is not above `q` is replaced by `126`. -/
theorem fold_min_eq_expo (q : EReal) :
    (Finset.univ : Finset (Fin 253)).fold min ⊤
        (fun j : Fin 253 => if q < pow2 (((j : ℕ) : ℤ) - 126) then (((((j : ℕ) : ℤ) - 126 : ℤ) : ℝ) : EReal) else ((126 : ℝ) : EReal))
      = (((expo q : ℤ) : ℝ) : EReal) := by
  have hb := below_le q
  have hlow : ∀ j : Fin 253, (expo q : ℝ) ≤ (((j : ℤ) - 126 : ℤ) : ℝ) ∨ ¬ q < pow2 ((j : ℤ) - 126) := by
    intro j
    by_cases hj : (j : ℕ) < below q
    · right
      have := (pow2_le_iff q ⟨j, by omega⟩).2 hj
      exact not_lt.2 this
    · left
      unfold expo
      exact_mod_cast (by omega : (below q : ℤ) - 126 ≤ (j : ℤ) - 126)
  have htop : (expo q : ℝ) ≤ 126 := by
    unfold expo
    exact_mod_cast (by omega : (below q : ℤ) - 126 ≤ 126)
  apply le_antisymm
  · rw [Finset.fold_min_le]
    right
    refine ⟨⟨below q, by omega⟩, Finset.mem_univ _, ?_⟩
    split
    · exact le_of_eq rfl
    · rename_i hn
      have h252 : below q = 252 := by
        by_contra hne
        refine hn (not_le.1 fun hle => ?_)
        exact absurd ((pow2_le_iff q ⟨below q, by omega⟩).1 hle) (lt_irrefl _)
      unfold expo
      rw [h252]
      norm_num
  · rw [Finset.le_fold_min]
    refine ⟨le_top, fun j _ => ?_⟩
    split
    · rename_i hlt
      rcases hlow j with h | h
      · exact EReal.coe_le_coe_iff.2 h
      · exact absurd hlt h
    · exact EReal.coe_le_coe_iff.2 htop

/-- The word with biased exponent `n` and nothing else denotes the power of two `2 ^ (n - 127)`. -/
theorem ofBits_pow2 (w : BitVec 32) (n : ℕ) (h1 : 1 ≤ n) (h2 : n ≤ 254) (hw : w.toNat = n * 8388608) :
    Ideal.ofBits .f32 w = pow2 ((n : ℤ) - 127) := by
  have hs : (BitVec.extractLsb' (8 + 23) 1 w == 1#1) = false := by
    rw [beq_eq_false_iff_ne]
    intro h
    have := congrArg BitVec.toNat h
    rw [BitVec.extractLsb'_toNat, hw, Nat.shiftRight_eq_div_pow, Nat.div_eq_of_lt (by omega)] at this
    exact absurd this (by decide)
  have he : (BitVec.extractLsb' 23 8 w).toNat = n := by
    rw [BitVec.extractLsb'_toNat, hw, Nat.shiftRight_eq_div_pow]
    omega
  have hf : (BitVec.extractLsb' 0 23 w).toNat = 0 := by
    rw [BitVec.extractLsb'_toNat, hw, Nat.shiftRight_eq_div_pow]
    omega
  show Ideal.ieee 8 23 w = _
  unfold Ideal.ieee
  simp only [hs, he, hf]
  rw [if_neg (by omega), if_neg (by omega)]
  unfold pow2
  congr 1
  have : ((n : ℤ) - 127) = ((n : ℤ) - (2 ^ (8 - 1) - 1) - (23 : ℕ)) + 23 := by norm_num
  rw [this, zpow_add₀ (by norm_num : (2 : ℝ) ≠ 0)]
  norm_num
  exact mul_comm _ _

/-- Two to a real power that is an integer. -/
theorem pow_two (k : ℤ) : Ideal.pow ((2 : ℝ) : EReal) (((k : ℝ)) : EReal) = pow2 k := by
  show ((Real.rpow 2 (k : ℝ) : ℝ) : EReal) = _
  unfold pow2
  congr 1
  exact Real.rpow_intCast 2 k

end Cert.Exponent

end
-- ==== Proof.Spec.lean ====
module

public import proofs.«01_k».proof.Proof.Exponent

@[expose] public section

noncomputable section

/-! One row's results, over the extended reals: 20 tiles of 128 numbers, normalised by the row's root mean square,
    each tile then scaled by a power of two and clipped. -/

namespace Cert.Spec

open Idealize.ShloMosaic Cert.Exponent

/-- The reciprocal root mean square of a row given as 20 tiles of 128. -/
def rms (x : Fin 20 → Fin 128 → EReal) : EReal :=
  Ideal.rsqrt ((∑ l, ∑ n, x n l * x n l) * ((1 / 2560 : ℝ) : EReal) + Ideal.ofBits .f32 0x358637BD#32)

/-- A tile of the normalised row: times the reciprocal root mean square, times the weights. -/
def normed (x g : Fin 20 → Fin 128 → EReal) (n : Fin 20) (l : Fin 128) : EReal := x n l * rms x * g n l

/-- A tile's greatest magnitude. -/
def amax (y : Fin 128 → EReal) : EReal :=
  (Finset.univ : Finset (Fin 128)).fold max (Ideal.ofBits .f32 0xFF800000#32) fun l => max (y l) (-(y l))

/-- A tile's greatest magnitude over 448 (the rounded reciprocal of 448 is the factor). -/
def quot (y : Fin 128 → EReal) : EReal := amax y * Ideal.ofBits .f32 0x3B124925#32

/-- The exponent of a quotient: the least power of two above it, and 0 for the quotient 0. -/
def expoOf (q : EReal) : ℤ := if q = 0 then 0 else expo q

/-- A tile's scale. -/
def scale (y : Fin 128 → EReal) : EReal := pow2 (expoOf (quot y))

/-- A tile's codes: over the scale, clipped to ±448. -/
def code (y : Fin 128 → EReal) (l : Fin 128) : EReal :=
  min (Ideal.ofBits .f32 0x43E00000#32) (max (Ideal.ofBits .f32 0xC3E00000#32) (y l * pow2 (-(expoOf (quot y)))))

/-- The exponent lies between -126 and 126. -/
theorem expoOf_bounds (q : EReal) : -126 ≤ expoOf q ∧ expoOf q ≤ 126 := by
  unfold expoOf
  split
  · omega
  · have := below_le q
    unfold expo
    omega

end Cert.Spec

end
-- ==== Proof.TileRead.lean ====
module

public import proofs.«01_k».proof.Proof.Tile
public import proofs.«01_k».proof.Proof.Spec
public import Idealize.ShloMosaic.Lib.Pipeline.ValueKit
public import Idealize.ShloMosaic.Lib.ValueIdx
public import Idealize.ShloMosaic.PureOps.IdealRules

@[expose] public section

set_option maxRecDepth 16384

noncomputable section

/-! The kernel's arithmetic on a strip, read at an index over the extended reals. -/

namespace Cert.TileRead

open Idealize.ShloMosaic hiding ix1 ix2 ix3 ix4
open Idealize.ShloMosaic.ValueIdx Cert.KernelIdeal Cert.KernelIdeal.Gen Cert.Exponent

/-- Row `r` of a strip of tiles. -/
def rowOf (xs : Fin 20 → Vec Ideal S1x32x128 .bf16) (r : Fin 32) (n : Fin 20) (l : Fin 128) : EReal := xs n (ix3 0 r l)

/-- The weights, tile by tile. -/
def wOf (gs : Fin 20 → Vec Ideal S1x128 .f32) (n : Fin 20) (l : Fin 128) : EReal := gs n (ix2 0 l)

/-- A column of 32 numbers, from the same numbers without the axis of extent 1. -/
theorem col_apply {α : Type} (v : S32.Idx → α) (r : Fin 32) : shapeCast S32x1 v shapeCasts_S32_S32x1 (ix2 r 0) = v (ix1 r) :=
  shapeCast_apply _ _ _ _ (by rw [Shape.rowMajor_val_one, Shape.rowMajor_val_two]; show r.val = r.val * 1 + 0; omega)

/-- A column laid across 128 lanes. -/
theorem lanes_apply {α : Type} (v : S32x1.Idx → α) (r : Fin 32) (l : Fin 128) :
    broadcastTo S32x128 v broadcasts_S32x1_S32x128 (ix2 r l) = v (ix2 r 0) :=
  broadcastTo_apply _ _ _ _ fun a => match a with | ⟨0, _⟩ => rfl | ⟨1, _⟩ => rfl

/-- A column laid across 252 lanes. -/
theorem lanes252_apply {α : Type} (v : S32x1.Idx → α) (r : Fin 32) (l : Fin 252) :
    broadcastTo S32x252 v broadcasts_S32x1_S32x252 (ix2 r l) = v (ix2 r 0) :=
  broadcastTo_apply _ _ _ _ fun a => match a with | ⟨0, _⟩ => rfl | ⟨1, _⟩ => rfl

/-- A row of 252 laid down 32 rows. -/
theorem rows252_apply {α : Type} (v : S1x252.Idx → α) (r : Fin 32) (l : Fin 252) :
    broadcastTo S32x252 v broadcasts_S1x252_S32x252 (ix2 r l) = v (ix2 0 l) :=
  broadcastTo_apply _ _ _ _ fun a => match a with | ⟨0, _⟩ => rfl | ⟨1, _⟩ => rfl

/-- A row of 128 laid down 32 rows. -/
theorem rows_apply {α : Type} (v : S1x128.Idx → α) (r : Fin 32) (l : Fin 128) :
    broadcastTo S32x128 v broadcasts_S1x128_S32x128 (ix2 r l) = v (ix2 0 l) :=
  broadcastTo_apply _ _ _ _ fun a => match a with | ⟨0, _⟩ => rfl | ⟨1, _⟩ => rfl

/-- A tile's numbers. -/
theorem wide_apply (x : Vec Ideal S1x32x128 .bf16) (r : Fin 32) (l : Fin 128) : Tile.wide x (ix2 r l) = x (ix3 0 r l) := by
  unfold Tile.wide
  rw [extf_apply]
  exact shapeCast_apply _ _ _ _ (by
    rw [Shape.rowMajor_val_two, Shape.rowMajor_val_three]; show (0 * 32 + r.val) * 128 + l.val = r.val * 128 + l.val; omega)

/-- The sum of squares of the first tiles. -/
theorem sumSq_apply (xs : Fin 20 → Vec Ideal S1x32x128 .bf16) (r : Fin 32) (l : Fin 128) : ∀ (n : ℕ) (h : n < 20),
    Tile.sumSq xs n h (ix2 r l) = ∑ k : Fin (n + 1), rowOf xs r ⟨k.val, by omega⟩ l * rowOf xs r ⟨k.val, by omega⟩ l
  | 0, h => by
    rw [Fin.sum_univ_one]
    show Tile.wide _ (ix2 r l) * Tile.wide _ (ix2 r l) = _
    rw [wide_apply]; rfl
  | n + 1, h => by
    rw [Fin.sum_univ_castSucc]
    show Tile.sumSq xs n _ (ix2 r l) + Tile.wide _ (ix2 r l) * Tile.wide _ (ix2 r l) = _
    rw [wide_apply, sumSq_apply xs r l n]; rfl

/-- A row's sum over the lanes. -/
theorem rowSum_apply (v : FVec Ideal S32x128 .f32) (hφ) (hacc) (r : Fin 32) :
    multiReduction .add [1] S32 v 0x00000000#32 reduces_S32x128_S32 hφ hacc (ix1 r) = ∑ l : Fin 128, v (ix2 r l) :=
  (Ideal.multiReduction_add_single v _ _ _ _ _).trans (Finset.sum_congr rfl fun _ _ => congrArg v (funext fun a => match a with | ⟨0, _⟩ => rfl | ⟨1, _⟩ => rfl))

/-- A row's greatest element. -/
theorem rowMax_apply (v : FVec Ideal S32x128 .f32) (hφ) (hacc) (r : Fin 32) :
    multiReduction .maximumf [1] S32 v 0xFF800000#32 reduces_S32x128_S32 hφ hacc (ix1 r)
      = (Finset.univ : Finset (Fin 128)).fold max (Ideal.ofBits .f32 0xFF800000#32) fun l => v (ix2 r l) :=
  (Ideal.multiReduction_maximumf_single v _ _ _ _ _).trans
    (Finset.fold_congr fun _ _ => congrArg v (funext fun a => match a with | ⟨0, _⟩ => rfl | ⟨1, _⟩ => rfl))

/-- How many of a row's bits are set. -/
theorem rowCount_apply (v : IVec S32x252 1) (hacc) (r : Fin 32) :
    multiReductionI .add [1] S32 (extui 32 v natLt_1_32) 0#32 reduces_S32x252_S32 hacc (ix1 r)
      = BitVec.ofNat 32 ((Finset.univ : Finset (Fin 252)).filter fun c => v (ix2 r c) = 1#1).card := by
  refine (multiReductionI_eq_fold _ _ _ _ _ _).trans ((Shape.Reduces.fold_filter_drop_single _ _ _ _ _).trans ?_)
  refine Eq.trans (Finset.fold_congr (g := fun c : Fin 252 => (v (ix2 r c)).setWidth 32) fun _ _ => ?_) (Idealize.ShloMosaic.IndicatorCount.fold_addi_setWidth_eq_card _ _)
  exact congrArg (fun i => (v i).setWidth 32) (funext fun a => match a with | ⟨0, _⟩ => rfl | ⟨1, _⟩ => rfl)

/-- Each row's reciprocal root mean square. -/
theorem rms_apply (xs : Fin 20 → Vec Ideal S1x32x128 .bf16) (r : Fin 32) :
    Tile.rms xs (ix2 r 0) = Spec.rms (rowOf xs r) := by
  show Ideal.rsqrt (shapeCast S32x1 _ _ (ix2 r 0) * Named.named (F := Ideal) κ "inv_d" 0x39CCCCCD#32 + Ideal.ofBits .f32 0x358637BD#32) = _
  rw [col_apply, IdealRules.named_const.ideal_named_scalar _ _ _ _ rfl]
  unfold Spec.rms
  refine congrArg (fun z => Ideal.rsqrt (z * _ + _)) ((rowSum_apply _ _ _ r).trans (Finset.sum_congr rfl fun l _ => ?_))
  exact sumSq_apply xs r l 19 (by decide)

/-- A normalised tile. -/
theorem yTile_apply (xs : Fin 20 → Vec Ideal S1x32x128 .bf16) (gs : Fin 20 → Vec Ideal S1x128 .f32) (n : Fin 20) (r : Fin 32) (l : Fin 128) :
    Tile.yTile xs gs n (ix2 r l) = Spec.normed (rowOf xs r) (wOf gs) n l := by
  show Tile.wide (xs n) (ix2 r l) * broadcastTo S32x128 _ _ (ix2 r l) * broadcastTo S32x128 _ _ (ix2 r l) = _
  rw [wide_apply, lanes_apply, rows_apply, rms_apply]
  unfold Spec.normed
  congr 1
  exact shapeCast_apply _ _ _ _ rfl

/-- Each row's greatest magnitude over 448. -/
theorem quot_apply (y : FVec Ideal S32x128 .f32) (r : Fin 32) : Tile.quot y (ix2 r 0) = Spec.quot fun l => y (ix2 r l) := by
  show shapeCast S32x1 _ _ (ix2 r 0) * Ideal.ofBits .f32 0x3B124925#32 = _
  rw [col_apply]
  exact congrArg (· * _) (rowMax_apply _ _ _ r)

/-- The word of a biased exponent, moved to its place, is that power of two. -/
theorem shifted_pow2 (v : BitVec 32) (n : ℕ) (h1 : 1 ≤ n) (h2 : n ≤ 254) (hv : v.toNat = n) :
    Ideal.ofBits .f32 (IntOp.shli .vector v 23#32) = pow2 ((n : ℤ) - 127) := by
  refine ofBits_pow2 _ n h1 h2 ?_
  show (if (23#32).toNat < 32 then v <<< 23#32 else _ : BitVec 32).toNat = _
  rw [if_pos (by decide), BitVec.shiftLeft_eq', BitVec.toNat_shiftLeft, hv, Nat.shiftLeft_eq]
  show n * 2 ^ 23 % 2 ^ 32 = _
  omega

/-- The powers of two. -/
theorem powers_apply (c : Fin 252) : Tile.powers (F := Ideal) (ix2 0 c) = pow2 ((c : ℤ) - 126) := by
  show Ideal.ofBits .f32 (IntOp.shli .vector (BitVec.ofNat 32 (0 * 252 + c.val) + 1#32) 23#32) = _
  rw [shifted_pow2 _ (c.val + 1) (by omega) (by omega)]
  · congr 1; push_cast; omega
  · rw [BitVec.toNat_add, BitVec.toNat_ofNat]
    show ((0 * 252 + c.val) % 2 ^ 32 + 1) % 2 ^ 32 = _
    omega

/-- The count of the powers of two that do not exceed a row's quotient. -/
theorem count_apply (q : FVec Ideal S32x1 .f32) (r : Fin 32) : Tile.count q (ix2 r 0) = BitVec.ofNat 32 (below (q (ix2 r 0))) := by
  unfold Tile.count
  rw [col_apply]
  refine (rowCount_apply _ _ r).trans ?_
  unfold below
  refine congrArg (fun s : Finset (Fin 252) => BitVec.ofNat 32 s.card) (Finset.filter_congr fun c _ => ?_)
  rw [cmpf_apply, lanes252_apply, rows252_apply, powers_apply]
  show BitVec.ofBool (decide (pow2 ((c : ℤ) - 126) ≤ q (ix2 r 0))) = 1#1 ↔ _
  by_cases h : pow2 ((c : ℤ) - 126) ≤ q (ix2 r 0)
  · rw [decide_eq_true h]; exact iff_of_true rfl h
  · rw [decide_eq_false h]; exact iff_of_false (by decide) h

/-- A row's exponent, as a word. -/
theorem expo_apply (q : FVec Ideal S32x1 .f32) (r : Fin 32) : Tile.expo q (ix2 r 0) = BitVec.ofInt 32 (Spec.expoOf (q (ix2 r 0))) := by
  show Scalar.select (BitVec.ofBool (decide (q (ix2 r 0) = Ideal.ofBits .f32 0x00000000#32))) 0#32 (Tile.count q (ix2 r 0) - 126#32) = _
  have h0 : Ideal.ofBits .f32 0x00000000#32 = 0 := by simp [Ideal.ofBits, Ideal.ieee]
  rw [count_apply, h0]
  unfold Spec.expoOf
  by_cases h : q (ix2 r 0) = 0
  · rw [if_pos h, decide_eq_true h]; rfl
  · rw [if_neg h, decide_eq_false h]
    show BitVec.ofNat 32 (below (q (ix2 r 0))) - 126#32 = _
    have := below_le (q (ix2 r 0))
    unfold expo
    apply BitVec.eq_of_toNat_eq
    rw [BitVec.toNat_sub, BitVec.toNat_ofNat, BitVec.toNat_ofInt]
    show (2 ^ 32 - 126 + below (q (ix2 r 0)) % 2 ^ 32) % 2 ^ 32 = (((below (q (ix2 r 0)) : ℤ) - 126) % (2 ^ 32 : ℕ)).toNat
    omega

/-- Two to the exponent, from the exponent's word. -/
theorem scale_apply (e : IVec S32x1 32) (r : Fin 32) (k : ℤ) (h1 : -126 ≤ k) (h2 : k ≤ 126) (he : e (ix2 r 0) = BitVec.ofInt 32 k) :
    Tile.scale (F := Ideal) e (ix2 r 0) = pow2 k := by
  show Ideal.ofBits .f32 (IntOp.shli .vector (e (ix2 r 0) + 127#32) 23#32) = _
  rw [shifted_pow2 _ (k + 127).toNat (by omega) (by omega)]
  · congr 1; omega
  · rw [he, BitVec.toNat_add, BitVec.toNat_ofInt]
    show ((k % (2 ^ 32 : ℕ)).toNat + 127) % 2 ^ 32 = _
    omega

/-- Two to minus the exponent, from the exponent's word. -/
theorem invScale_apply (e : IVec S32x1 32) (r : Fin 32) (k : ℤ) (h1 : -126 ≤ k) (h2 : k ≤ 126) (he : e (ix2 r 0) = BitVec.ofInt 32 k) :
    Tile.invScale (F := Ideal) e (ix2 r 0) = pow2 (-k) := by
  show Ideal.ofBits .f32 (IntOp.shli .vector (127#32 - e (ix2 r 0)) 23#32) = _
  rw [shifted_pow2 _ (127 - k).toNat (by omega) (by omega)]
  · congr 1; omega
  · rw [he, BitVec.toNat_sub, BitVec.toNat_ofInt]
    show (2 ^ 32 - (k % (2 ^ 32 : ℕ)).toNat + 127) % 2 ^ 32 = _
    omega

/-- A tile's codes. -/
theorem codes_apply (y : FVec Ideal S32x128 .f32) (r : Fin 32) (l : Fin 128) :
    Tile.codes y (ix3 0 r l) = Spec.code (fun l => y (ix2 r l)) l := by
  unfold Tile.codes
  refine (shapeCast_apply _ _ _ (ix2 r l) (by
    rw [Shape.rowMajor_val_two, Shape.rowMajor_val_three]; show r.val * 128 + l.val = (0 * 32 + r.val) * 128 + l.val; omega)).trans ?_
  show min (Ideal.ofBits .f32 0x43E00000#32) (max (Ideal.ofBits .f32 0xC3E00000#32) (y (ix2 r l) * broadcastTo S32x128 _ _ (ix2 r l))) = _
  rw [lanes_apply, invScale_apply _ r _ (Spec.expoOf_bounds _).1 (Spec.expoOf_bounds _).2 (expo_apply _ r), quot_apply]
  rfl

/-- A tile's scales. -/
theorem tileScale_apply (y : FVec Ideal S32x128 .f32) (r : Fin 32) :
    Tile.scale (F := Ideal) (Tile.expo (Tile.quot y)) (ix2 r 0) = Spec.scale fun l => y (ix2 r l) := by
  rw [scale_apply _ r _ (Spec.expoOf_bounds _).1 (Spec.expoOf_bounds _).2 (expo_apply _ r), quot_apply]
  rfl

/-- Column `k` of the gathered scales is tile `k`'s, once that tile is done. -/
theorem gathered_apply (xs : Fin 20 → Vec Ideal S1x32x128 .bf16) (gs : Fin 20 → Vec Ideal S1x128 .f32) (r : Fin 32) (k : Fin 20) (l : Fin 128)
    (hl : l.val = k.val) : ∀ (n : ℕ) (h : n ≤ 20), k.val < n →
    Tile.gathered xs gs n h (ix2 r l) = Spec.scale (Spec.normed (rowOf xs r) (wOf gs) k)
  | n + 1, h, hk => by
    show Scalar.select (IntOp.cmpi .eq (BitVec.ofNat 32 (0 * 128 + l.val)) (BitVec.ofNat 32 n)) (broadcastTo S32x128 _ _ (ix2 r l)) (Tile.gathered xs gs n _ (ix2 r l)) = _
    show Scalar.select (BitVec.ofBool (BitVec.ofNat 32 (0 * 128 + l.val) == BitVec.ofNat 32 n)) _ _ = _
    by_cases e : k.val = n
    · have : (BitVec.ofNat 32 (0 * 128 + l.val) == BitVec.ofNat 32 n) = true := by rw [hl, e]; simp
      rw [this, show BitVec.ofBool true = 1#1 from rfl, select_one, lanes_apply]
      refine (shapeCast_apply _ _ _ (ix2 r 0) rfl).trans ((tileScale_apply _ r).trans ?_)
      have hn : (⟨n, h⟩ : Fin 20) = k := Fin.ext e.symm
      rw [hn]
      exact congrArg Spec.scale (funext fun l => yTile_apply xs gs k r l)
    · have : (BitVec.ofNat 32 (0 * 128 + l.val) == BitVec.ofNat 32 n) = false := by
        rw [beq_eq_false_iff_ne]
        intro hw
        have := congrArg BitVec.toNat hw
        rw [BitVec.toNat_ofNat, BitVec.toNat_ofNat] at this
        omega
      rw [this, show BitVec.ofBool false = 0#1 from rfl, select_zero]
      exact gathered_apply xs gs r k l hl n (Nat.le_of_succ_le h) (by omega)

/-- The four strips' scales, tile by row. -/
theorem scales_apply (sc : Fin 4 → FVec Ideal S32x128 .f32) (k : Fin 20) (t : Fin 128) :
    Tile.scales sc (ix3 k 0 t) = sc ⟨t.val / 32, by omega⟩ (ix2 ⟨t.val % 32, by omega⟩ ⟨k.val, by omega⟩) := by
  unfold Tile.scales
  refine (shapeCast_apply _ _ _ (ix2 k t) (by
    rw [Shape.rowMajor_val_two, Shape.rowMajor_val_three]; show k.val * 128 + t.val = (k.val * 1 + 0) * 128 + t.val; omega)).trans ?_
  refine (extractStridedSlice_apply _ _ _ _ (ix2 (⟨k.val, by omega⟩ : Fin 128) t)
    (fun a => match a with | ⟨0, _⟩ => (Nat.zero_add _).symm | ⟨1, _⟩ => (Nat.zero_add _).symm)).trans ?_
  refine (transpose_apply _ _ _ _ (ix2 t (⟨k.val, by omega⟩ : Fin 128)) (fun b => match b with | ⟨0, _⟩ => rfl | ⟨1, _⟩ => rfl)).trans ?_
  exact concatenate_ofFn_apply (s₁ := S32x128) 0 sc concatenates_S32x128_S32x128_S32x128_S32x128_S128x128_d0 rfl 32 rfl (ix2 t (⟨k.val, by omega⟩ : Fin 128)) ⟨t.val / 32, by omega⟩ rfl
    (ix2 ⟨t.val % 32, by omega⟩ ⟨k.val, by omega⟩) rfl (fun b => match b with | ⟨0, _⟩ => fun h => absurd rfl h | ⟨1, _⟩ => fun _ => rfl)

end Cert.TileRead

end
-- ==== Proof.RefRun.lean ====
module

public import proofs.«01_k».proof.Proof.Gen.ReferenceIdeal.Run
public import Idealize.ShloMosaic.Lib.Pipeline.ValueKit

@[expose] public section

set_option maxRecDepth 16384

noncomputable section

/-! The reference's stages, each named once, and its run in terms of them. -/

namespace Cert.RefRun

open Idealize.ShloMosaic hiding ix1 ix2 ix3 ix4
open Idealize.ShloMosaic.TcCoe Idealize.ShloMosaic.ValueIdx Idealize.SL.Sem Cert.ReferenceIdeal Cert.ReferenceIdeal.Gen

variable {F : FTy → Type} [FloatOps F]

/-- The input, each row cut into 20 tiles. -/
def tiles (X : Vec F S8x4096x2560 .bf16) : FVec F S8x4096x20x128 .f32 :=
  shapeCast _ (extf .f32 X bitsLt_bf16_f32) shapeCasts_S8x4096x2560_S8x4096x20x128

/-- The reciprocal root mean square of each row. -/
def rms (x : FVec F S8x4096x20x128 .f32) : FVec F S8x4096x1x1 .f32 :=
  Host.rsqrt (addf (Host.divf (broadcastInDim S8x4096x1x1 ![0, 1] bcast_S8x4096_S8x4096x1x1_0_1
      (Host.reduceAdd (mulf x x) (constant S_ .f32 0x00000000#32) reducesTo_S8x4096x20x128_S8x4096_d2_3 h_S_))
      (broadcastInDim S8x4096x1x1 ![] bcast_S_S8x4096x1x1 (constant S_ .f32 0x45200000#32)))
    (broadcastInDim S8x4096x1x1 ![] bcast_S_S8x4096x1x1 (constant S_ .f32 0x358637BD#32)))

/-- The normalised rows. -/
def normed (x : FVec F S8x4096x20x128 .f32) (W : Vec F S2560 .bf16) : FVec F S8x4096x20x128 .f32 :=
  mulf (mulf x (broadcastInDim S8x4096x20x128 ![0, 1, 2, 3] bcast_S8x4096x1x1_S8x4096x20x128_0_1_2_3 (rms x)))
    (broadcastInDim S8x4096x20x128 ![0, 1, 2, 3] bcast_S1x1x20x128_S8x4096x20x128_0_1_2_3
      (broadcastInDim S1x1x20x128 ![2, 3] bcast_S20x128_S1x1x20x128_2_3 (shapeCast _ (extf .f32 W bitsLt_bf16_f32) shapeCasts_S2560_S20x128)))

/-- Each tile's greatest magnitude. -/
def amax (y : FVec F S8x4096x20x128 .f32) : FVec F S8x4096x20 .f32 :=
  Host.reduce FloatOps.maximumf (Host.absf y) (constant S_ .f32 0xFF800000#32) reducesTo_S8x4096x20x128_S8x4096x20_d3 h_S_

/-- It over 448. -/
def quot (a : FVec F S8x4096x20 .f32) : FVec F S8x4096x20 .f32 :=
  mulf a (broadcastInDim S8x4096x20 ![] bcast_S_S8x4096x20 (constant S_ .f32 0x3B124925#32))

/-- The exponents tried, -126 to 126. -/
def exps : FVec F S253 .f32 :=
  addf (broadcastInDim S253 ![] bcast_S_S253 (constant S_ .f32 0xC2FC0000#32)) (sitofp .f32 (iotaInDim S253 32 0))

/-- The least exponent whose power of two is above the quotient. -/
def least (q : FVec F S8x4096x20 .f32) : FVec F S8x4096x20 .f32 :=
  Host.reduce FloatOps.minimumf (select (cmpf .olt
      (broadcastInDim S8x4096x20x253 ![0, 1, 2, 3] bcast_S8x4096x20x1_S8x4096x20x253_0_1_2_3 (broadcastInDim S8x4096x20x1 ![0, 1, 2] bcast_S8x4096x20_S8x4096x20x1_0_1_2 q))
      (broadcastInDim S8x4096x20x253 ![0, 1, 2, 3] bcast_S1x1x1x253_S8x4096x20x253_0_1_2_3 (broadcastInDim S1x1x1x253 ![3] bcast_S253_S1x1x1x253_3
        (Host.powf (broadcastInDim S253 ![] bcast_S_S253 (constant S_ .f32 0x40000000#32)) exps))))
    (broadcastInDim S8x4096x20x253 ![3] bcast_S253_S8x4096x20x253_3 exps)
    (broadcastInDim S8x4096x20x253 ![] bcast_S_S8x4096x20x253 (constant S_ .f32 0x42FC0000#32)))
    (constant S_ .f32 0x7F800000#32) reducesTo_S8x4096x20x253_S8x4096x20_d3 h_S_

/-- Each tile's exponent: 0 where the tile is all zeros. -/
def expo (a : FVec F S8x4096x20 .f32) : FVec F S8x4096x20 .f32 :=
  select (cmpf .oeq a (broadcastInDim S8x4096x20 ![] bcast_S_S8x4096x20 (constant S_ .f32 0x00000000#32)))
    (broadcastInDim S8x4096x20 ![] bcast_S_S8x4096x20 (constant S_ .f32 0x00000000#32)) (least (quot a))

/-- Two to the exponent. -/
def power (e : FVec F S8x4096x20 .f32) : FVec F S8x4096x20 .f32 :=
  Host.powf (broadcastInDim S8x4096x20 ![] bcast_S_S8x4096x20 (constant S_ .f32 0x40000000#32)) e

/-- The tiles over their scales. -/
def scaled (y : FVec F S8x4096x20x128 .f32) : FVec F S8x4096x20x128 .f32 :=
  mulf y (broadcastInDim S8x4096x20x128 ![0, 1, 2, 3] bcast_S8x4096x20x1_S8x4096x20x128_0_1_2_3
    (broadcastInDim S8x4096x20x1 ![0, 1, 2] bcast_S8x4096x20_S8x4096x20x1_0_1_2 (power (Host.negf (expo (amax y))))))

/-- The cast that saturates: clipped to ±448, then cast. -/
def clipped (v : FVec F S8x4096x20x128 .f32) : FVec F S8x4096x20x128 .fp8e4m3 :=
  truncf .fp8e4m3 (minimumf (broadcast S8x4096x20x128 (Scalar.ofBits .f32 0x43E00000#32))
    (maximumf (broadcast S8x4096x20x128 (Scalar.ofBits .f32 0xC3E00000#32)) v)) bitsLt_fp8e4m3_f32

variable (m : (ℓ : Loc nD τ sig) → Buf (Elt F) ℓ) (ρ : Dev nD → PrngReg)

set_option maxHeartbeats 2000000 in
/-- What the saturating cast is handed. -/
theorem entry_scaled (c : Dev nD) : V m c main_v44
    = scaled (normed (tiles (m ((c.tc : Thread nD τ).loc main_arg0))) (m ((c.tc : Thread nD τ).loc main_arg1))) := by
  show V0 m c (Proc.devRef .tc main_v44) = _
  simp only [V0, hostOps0, hostOps0_1, hostOps0_2, hostOps0_3, hostOps0_4, StableHlo.TRef.ternary, StableHlo.TRef.unary, StableHlo.TRef.toBuf, StableHlo.TRef.ofBuf, cast_eq, List.flatten_cons, List.flatten_nil, List.append_nil, List.cons_append, List.nil_append]
  after_results_simp <;> rfl

theorem index_0 : ∀ t : Fin cfg0.N, win0_0.index t = ![0, 0, 0, 0] := (by decide +kernel : ∀ t : Fin grid0.N, _)
theorem index_1 : ∀ t : Fin cfg0.N, win0_1.index t = ![0, 0, 0, 0] := (by decide +kernel : ∀ t : Fin grid0.N, _)

/-- The cast's block is the whole array. -/
theorem block_in (c : Dev nD) (t : Fin cfg0.N) : (iblk m c 0 t : Vec F S8x4096x20x128 .f32) = (V m c main_v44 : Vec F S8x4096x20x128 .f32) := by
  funext y
  blk_simp [iblk]
  refine congrArg (V m c main_v44 : Vec F S8x4096x20x128 .f32) (funext fun a => Fin.ext ?_)
  fin_cases a
  · blk_simp [index_0]
  · blk_simp [index_0]
  · blk_simp [index_0]
  · blk_simp [index_0]

/-- What the body stores is the clipped block. -/
theorem out_clipped (x : Vec F S8x4096x20x128 .f32) : out0_1 x = clipped x := by
  unfold out0_1
  have hz : (![0, 0, 0, 0] : Fin 4 → ℕ) = fun _ => 0 := by decide
  refine (View.canon_cons_unit_zero hz inb_S8x4096x20x128_S8x4096x20x128_0_0_0_0 _ []).trans ?_
  have hl : View.ld x r0_0 = x := View.ld_unit_zero hz inb_S8x4096x20x128_S8x4096x20x128_0_0_0_0 x
  rw [hl]
  unfold k0_pay1 clipped
  dsimp only
  rw [shapeCast_self]

/-- What the cast leaves. -/
theorem final_codes (c : Dev nD) : (dats m 0 c).arrAt 1 cfg0.N = clipped (V m c main_v44) := by
  refine (dats m 0 c).arrAt_eq_of_covers 1 _ (by decide +kernel) fun t hf y => ?_
  blk_simp
  rw [after0_1, out_clipped, block_in]
  refine congrArg (clipped (V m c main_v44)) (funext fun a => Fin.ext ?_)
  fin_cases a
  · blk_simp [index_1]
  · blk_simp [index_1]
  · blk_simp [index_1]
  · blk_simp [index_1]

/-- The reference's run: its results as functions of its arguments, the arguments unchanged. -/
theorem run : θ_run defs (onTc (τ := τ) (main (F := F))) ⟨m, fun _ => 0, ρ⟩ (fun r => ∀ c : Dev nD,
      r.2.mem ((c.tc : Thread nD τ).loc main_v46)
        = shapeCast S8x4096x2560 (clipped (scaled (normed (tiles (m ((c.tc : Thread nD τ).loc main_arg0))) (m ((c.tc : Thread nD τ).loc main_arg1)))))
            shapeCasts_S8x4096x20x128_S8x4096x2560
      ∧ r.2.mem ((c.tc : Thread nD τ).loc main_v38)
        = power (expo (amax (normed (tiles (m ((c.tc : Thread nD τ).loc main_arg0))) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Value.run m ρ)
  obtain ⟨h1, h2, h3⟩ := h c
  refine ⟨?_, h2, h3⟩
  rw [← entry_scaled m c, ← final_codes m c]
  exact h1

end Cert.RefRun

end
-- ==== Proof.Consts.lean ====
module

public import Idealize.ShloMosaic.PureOps.Ideal.Laws

@[expose] public section

noncomputable section

/-! The numbers that the programs' literal words denote. -/

namespace Cert.Consts

open Idealize.ShloMosaic

theorem zero : Ideal.ofBits .f32 0x00000000#32 = 0 := by simp [Ideal.ofBits, Ideal.ieee]

theorem top : Ideal.ofBits .f32 0x7F800000#32 = ⊤ := by simp [Ideal.ofBits, Ideal.ieee]

theorem two : Ideal.ofBits .f32 0x40000000#32 = ((2 : ℝ) : EReal) := by
  simp [Ideal.ofBits, Ideal.ieee, -EReal.coe_mul]; norm_num

theorem width : Ideal.ofBits .f32 0x45200000#32 = ((2560 : ℝ) : EReal) := by
  simp [Ideal.ofBits, Ideal.ieee, -EReal.coe_mul]; norm_num

theorem least : Ideal.ofBits .f32 0xC2FC0000#32 = ((-126 : ℝ) : EReal) := by
  simp [Ideal.ofBits, Ideal.ieee, -EReal.coe_mul]; norm_num

theorem most : Ideal.ofBits .f32 0x42FC0000#32 = ((126 : ℝ) : EReal) := by
  simp [Ideal.ofBits, Ideal.ieee, -EReal.coe_mul]; norm_num

/-- The rounded reciprocal of 448 is not zero. -/
theorem recip_ne : Ideal.ofBits .f32 0x3B124925#32 ≠ 0 := by
  have h : Ideal.ofBits .f32 0x3B124925#32 = ((9586981 / 4294967296 : ℝ) : EReal) := by
    simp [Ideal.ofBits, Ideal.ieee, -EReal.coe_mul]; norm_num
  rw [h]
  exact_mod_cast (by norm_num : (9586981 / 4294967296 : ℝ) ≠ 0)

end Cert.Consts

end
-- ==== Proof.RefRead.lean ====
module

public import proofs.«01_k».proof.Proof.RefRun
public import proofs.«01_k».proof.Proof.Spec
public import proofs.«01_k».proof.Proof.Consts
public import Idealize.ShloMosaic.Lib.ValueIdx

@[expose] public section

set_option maxRecDepth 16384

noncomputable section

/-! The reference's stages, read at an index over the extended reals. -/

namespace Cert.RefRead

open Idealize.ShloMosaic hiding ix1 ix2 ix3 ix4
open Idealize.ShloMosaic.ValueIdx Cert.ReferenceIdeal Cert.ReferenceIdeal.Gen Cert.Exponent

/-- A number laid over a whole array. -/
theorem splat_apply {t : Shape} (h : S_.BroadcastsInDim t ![]) (w : BitVec 32) (j : t.Idx) :
    broadcastInDim t ![] h (constant (F := Ideal) S_ .f32 w) j = Ideal.ofBits .f32 w := rfl

section Elementwise

variable {s : Shape}

theorem rsqrt_apply (a : FVec Ideal s .f32) (i : s.Idx) : Host.rsqrt a i = Ideal.rsqrt (a i) := rfl
theorem divf_apply (a b : FVec Ideal s .f32) (i : s.Idx) : Host.divf a b i = Ideal.div (a i) (b i) := rfl
theorem powf_apply (a b : FVec Ideal s .f32) (i : s.Idx) : Host.powf a b i = Ideal.pow (a i) (b i) := rfl
theorem negf_apply (a : FVec Ideal s .f32) (i : s.Idx) : Host.negf a i = -(a i) := rfl
theorem absf_apply (a : FVec Ideal s .f32) (i : s.Idx) : Host.absf a i = max (a i) (-(a i)) := rfl

/-- A choice by equality. -/
theorem select_eq (x y : EReal) (a b : EReal) :
    Scalar.select (FloatOps.cmpf (F := Ideal) (φ := .f32) .oeq x y) a b = if x = y then a else b := by
  show Scalar.select (BitVec.ofBool (decide (x = y))) a b = _
  by_cases h : x = y
  · rw [decide_eq_true h, if_pos h]; rfl
  · rw [decide_eq_false h, if_neg h]; rfl

/-- A choice by order. -/
theorem select_lt (x y : EReal) (a b : EReal) :
    Scalar.select (FloatOps.cmpf (F := Ideal) (φ := .f32) .olt x y) a b = if x < y then a else b := by
  show Scalar.select (BitVec.ofBool (decide (x < y))) a b = _
  by_cases h : x < y
  · rw [decide_eq_true h, if_pos h]; rfl
  · rw [decide_eq_false h, if_neg h]; rfl

end Elementwise

/-- Tile `n` of row `s` of batch `b`. -/
theorem tiles_apply (X : Vec Ideal S8x4096x2560 .bf16) (b : Fin 8) (s : Fin 4096) (n : Fin 20) (l : Fin 128) :
    RefRun.tiles X (ix4 b s n l) = X (ix3 b s ⟨128 * n.val + l.val, by omega⟩) := by
  unfold RefRun.tiles
  exact shapeCast_apply _ _ _ (ix3 b s (⟨128 * n.val + l.val, by omega⟩ : Fin 2560)) (by
    rw [Shape.rowMajor_val_three, Shape.rowMajor_val_four]
    show (b.val * 4096 + s.val) * 2560 + (128 * n.val + l.val) = ((b.val * 4096 + s.val) * 20 + n.val) * 128 + l.val; omega)

/-- The indices of one row. -/
theorem drop_row (i : S8x4096x20x128.Idx) : reducesTo_S8x4096x20x128_S8x4096_d2_3.drop i = ix2 (i 0) (i 1) := by
  funext a; match a with | ⟨0, _⟩ => rfl | ⟨1, _⟩ => rfl

/-- The sum of a row. -/
theorem rowSum_apply (v : FVec Ideal S8x4096x20x128 .f32) (b : Fin 8) (s : Fin 4096) :
    Host.reduceAdd v (constant S_ .f32 0x00000000#32) reducesTo_S8x4096x20x128_S8x4096_d2_3 h_S_ (ix2 b s)
      = ∑ l : Fin 128, ∑ n : Fin 20, v (ix4 b s n l) := by
  show Ideal.ofBits .f32 0x00000000#32 + ∑ i ∈ Finset.univ.filter (fun i => reducesTo_S8x4096x20x128_S8x4096_d2_3.drop i = ix2 b s), v i = _
  rw [Consts.zero, zero_add, Finset.sum_comm, ← Fintype.sum_prod_type' (f := fun n l => v (ix4 b s n l))]
  refine Finset.sum_nbij' (fun i => ((i 2 : Fin 20), (i 3 : Fin 128))) (fun p => ix4 b s p.1 p.2) ?_ ?_ ?_ ?_ ?_
  · intro i _; exact Finset.mem_univ _
  · intro p _; exact Finset.mem_filter.2 ⟨Finset.mem_univ _, drop_row _⟩
  · intro i hi
    have h := (drop_row i).symm.trans (Finset.mem_filter.1 hi).2
    have h0 : i 0 = b := congrFun h 0
    have h1 : i 1 = s := congrFun h 1
    rw [← h0, ← h1]
    exact (ValueIdx.eq_ix4 i).symm
  · intro p _; rfl
  · intro i hi
    have h := (drop_row i).symm.trans (Finset.mem_filter.1 hi).2
    have h0 : i 0 = b := congrFun h 0
    have h1 : i 1 = s := congrFun h 1
    rw [← h0, ← h1]
    exact congrArg v (ValueIdx.eq_ix4 i)

/-- A row's reciprocal root mean square. -/
theorem rms_apply (x : FVec Ideal S8x4096x20x128 .f32) (b : Fin 8) (s : Fin 4096) :
    RefRun.rms x (ix4 b s 0 0) = Spec.rms fun n l => x (ix4 b s n l) := by
  unfold RefRun.rms
  rw [rsqrt_apply, addf_apply, divf_apply, splat_apply, splat_apply,
    broadcastInDim_apply _ bcast_S8x4096_S8x4096x1x1_0_1 _ _ (ix2 b s) (fun a => match a with | ⟨0, _⟩ => rfl | ⟨1, _⟩ => rfl),
    rowSum_apply, Consts.width, Ideal.div_coe (by norm_num : (2560 : ℝ) ≠ 0)]
  rfl

/-- The weights of a tile. -/
theorem weights_apply (W : Vec Ideal S2560 .bf16) (n : Fin 20) (l : Fin 128) :
    shapeCast S20x128 (extf (F := Ideal) .f32 W bitsLt_bf16_f32) shapeCasts_S2560_S20x128 (ix2 n l) = W (ix1 ⟨128 * n.val + l.val, by omega⟩) :=
  shapeCast_apply _ _ _ (ix1 (⟨128 * n.val + l.val, by omega⟩ : Fin 2560)) (by
    rw [Shape.rowMajor_val_one, Shape.rowMajor_val_two]; show 128 * n.val + l.val = n.val * 128 + l.val; omega)

/-- A normalised row. -/
theorem normed_apply (x : FVec Ideal S8x4096x20x128 .f32) (W : Vec Ideal S2560 .bf16) (b : Fin 8) (s : Fin 4096) (n : Fin 20) (l : Fin 128) :
    RefRun.normed x W (ix4 b s n l)
      = Spec.normed (fun n l => x (ix4 b s n l)) (fun n l => W (ix1 ⟨128 * n.val + l.val, by omega⟩)) n l := by
  unfold RefRun.normed
  rw [mulf_apply, mulf_apply,
    broadcastInDim_apply _ _ (RefRun.rms x) _ (ix4 b s 0 0) (fun a => match a with | ⟨0, _⟩ => rfl | ⟨1, _⟩ => rfl | ⟨2, _⟩ => rfl | ⟨3, _⟩ => rfl),
    broadcastInDim_apply _ bcast_S1x1x20x128_S8x4096x20x128_0_1_2_3 _ _ (ix4 0 0 n l) (fun a => match a with | ⟨0, _⟩ => rfl | ⟨1, _⟩ => rfl | ⟨2, _⟩ => rfl | ⟨3, _⟩ => rfl),
    broadcastInDim_apply _ bcast_S20x128_S1x1x20x128_2_3 _ _ (ix2 n l) (fun a => match a with | ⟨0, _⟩ => rfl | ⟨1, _⟩ => rfl),
    weights_apply, rms_apply]
  rfl

theorem reduces_lanes : S8x4096x20x128.Reduces [3] S8x4096x20 := by decide
theorem reduces_tried : S8x4096x20x253.Reduces [3] S8x4096x20 := by decide

/-- The greatest of a tile's 128 numbers. -/
theorem laneMax_apply (v : FVec Ideal S8x4096x20x128 .f32) (b : Fin 8) (s : Fin 4096) (n : Fin 20) :
    Host.reduce FloatOps.maximumf v (constant S_ .f32 0xFF800000#32) reducesTo_S8x4096x20x128_S8x4096x20_d3 h_S_ (ix3 b s n)
      = (Finset.univ : Finset (Fin 128)).fold max (Ideal.ofBits .f32 0xFF800000#32) fun l => v (ix4 b s n l) :=
  (Host.reduce_eq_fold_single _ _ _ _ reduces_lanes _ _).trans (Finset.fold_congr fun _ _ =>
    congrArg v (funext fun a => match a with | ⟨0, _⟩ => rfl | ⟨1, _⟩ => rfl | ⟨2, _⟩ => rfl | ⟨3, _⟩ => rfl))

/-- The least of 253 numbers. -/
theorem triedMin_apply (v : FVec Ideal S8x4096x20x253 .f32) (b : Fin 8) (s : Fin 4096) (n : Fin 20) :
    Host.reduce FloatOps.minimumf v (constant S_ .f32 0x7F800000#32) reducesTo_S8x4096x20x253_S8x4096x20_d3 h_S_ (ix3 b s n)
      = (Finset.univ : Finset (Fin 253)).fold min (Ideal.ofBits .f32 0x7F800000#32) fun l => v (ix4 b s n l) :=
  (Host.reduce_eq_fold_single _ _ _ _ reduces_tried _ _).trans (Finset.fold_congr fun _ _ =>
    congrArg v (funext fun a => match a with | ⟨0, _⟩ => rfl | ⟨1, _⟩ => rfl | ⟨2, _⟩ => rfl | ⟨3, _⟩ => rfl))

/-- A tile's greatest magnitude. -/
theorem amax_apply (y : FVec Ideal S8x4096x20x128 .f32) (b : Fin 8) (s : Fin 4096) (n : Fin 20) :
    RefRun.amax y (ix3 b s n) = Spec.amax fun l => y (ix4 b s n l) := by
  unfold RefRun.amax Spec.amax
  rw [laneMax_apply]
  exact Finset.fold_congr fun l _ => absf_apply y _

/-- The exponents tried. -/
theorem exps_apply (j : Fin 253) : RefRun.exps (F := Ideal) (ix1 j) = ((((j.val : ℤ) - 126 : ℤ) : ℝ) : EReal) := by
  show Ideal.ofBits .f32 0xC2FC0000#32 + (((BitVec.ofNat 32 j.val).toInt : ℝ) : EReal) = _
  have h : (BitVec.ofNat 32 j.val).toInt = (j.val : ℤ) := by
    rw [BitVec.toInt_eq_toNat_of_lt (by rw [BitVec.toNat_ofNat]; omega), BitVec.toNat_ofNat]; omega
  rw [Consts.least, h, ← EReal.coe_add]
  congr 1
  push_cast
  ring

/-- The powers tried. -/
theorem powers_apply (j : Fin 253) :
    Host.powf (broadcastInDim S253 ![] bcast_S_S253 (constant S_ .f32 0x40000000#32)) (RefRun.exps (F := Ideal)) (ix1 j) = pow2 ((j.val : ℤ) - 126) := by
  rw [powf_apply, splat_apply, exps_apply, Consts.two, pow_two]

/-- The least exponent. -/
theorem least_apply (q : FVec Ideal S8x4096x20 .f32) (b : Fin 8) (s : Fin 4096) (n : Fin 20) :
    RefRun.least q (ix3 b s n) = (((Exponent.expo (q (ix3 b s n)) : ℤ) : ℝ) : EReal) := by
  unfold RefRun.least
  rw [triedMin_apply, ← fold_min_eq_expo, Consts.top]
  refine Finset.fold_congr fun j _ => ?_
  rw [select_apply, cmpf_apply,
    broadcastInDim_apply _ bcast_S8x4096x20x1_S8x4096x20x253_0_1_2_3 _ _ (ix4 b s n 0) (fun a => match a with | ⟨0, _⟩ => rfl | ⟨1, _⟩ => rfl | ⟨2, _⟩ => rfl | ⟨3, _⟩ => rfl),
    broadcastInDim_apply _ bcast_S8x4096x20_S8x4096x20x1_0_1_2 _ _ (ix3 b s n) (fun a => match a with | ⟨0, _⟩ => rfl | ⟨1, _⟩ => rfl | ⟨2, _⟩ => rfl),
    broadcastInDim_apply _ bcast_S1x1x1x253_S8x4096x20x253_0_1_2_3 _ _ (ix4 0 0 0 j) (fun a => match a with | ⟨0, _⟩ => rfl | ⟨1, _⟩ => rfl | ⟨2, _⟩ => rfl | ⟨3, _⟩ => rfl),
    broadcastInDim_apply _ bcast_S253_S1x1x1x253_3 _ _ (ix1 j) (fun a => match a with | ⟨0, _⟩ => rfl),
    broadcastInDim_apply _ bcast_S253_S8x4096x20x253_3 _ _ (ix1 j) (fun a => match a with | ⟨0, _⟩ => rfl),
    splat_apply, Consts.most, exps_apply, powers_apply, select_lt]

/-- A tile's quotient. -/
theorem quot_apply (y : FVec Ideal S8x4096x20x128 .f32) (b : Fin 8) (s : Fin 4096) (n : Fin 20) :
    RefRun.quot (RefRun.amax y) (ix3 b s n) = Spec.quot fun l => y (ix4 b s n l) := by
  unfold RefRun.quot Spec.quot
  rw [mulf_apply, splat_apply, amax_apply]

/-- A tile's exponent. -/
theorem expo_apply (y : FVec Ideal S8x4096x20x128 .f32) (b : Fin 8) (s : Fin 4096) (n : Fin 20) :
    RefRun.expo (RefRun.amax y) (ix3 b s n) = (((Spec.expoOf (Spec.quot fun l => y (ix4 b s n l)) : ℤ) : ℝ) : EReal) := by
  unfold RefRun.expo
  rw [select_apply, cmpf_apply, splat_apply, Consts.zero, least_apply, quot_apply, amax_apply, select_eq]
  generalize hy : (fun l => y (ix4 b s n l)) = z
  have hq : Spec.quot z = 0 ↔ Spec.amax z = 0 := by
    unfold Spec.quot
    exact ⟨fun h => (mul_eq_zero.1 h).resolve_right Consts.recip_ne, fun h => by rw [h, zero_mul]⟩
  unfold Spec.expoOf
  by_cases h : Spec.amax z = 0
  · rw [if_pos h, if_pos (hq.2 h), Int.cast_zero, EReal.coe_zero]
  · rw [if_neg h, if_neg (fun h' => h (hq.1 h'))]

/-- A tile's scale. -/
theorem scale_apply (y : FVec Ideal S8x4096x20x128 .f32) (b : Fin 8) (s : Fin 4096) (n : Fin 20) :
    RefRun.power (RefRun.expo (RefRun.amax y)) (ix3 b s n) = Spec.scale fun l => y (ix4 b s n l) := by
  unfold RefRun.power Spec.scale
  rw [powf_apply, splat_apply, expo_apply, Consts.two, pow_two]

/-- A tile's inverse scale. -/
theorem inv_apply (y : FVec Ideal S8x4096x20x128 .f32) (b : Fin 8) (s : Fin 4096) (n : Fin 20) :
    RefRun.power (Host.negf (RefRun.expo (RefRun.amax y))) (ix3 b s n) = pow2 (-(Spec.expoOf (Spec.quot fun l => y (ix4 b s n l)))) := by
  unfold RefRun.power
  rw [powf_apply, splat_apply, negf_apply, expo_apply, Consts.two, ← EReal.coe_neg, ← Int.cast_neg, pow_two]

/-- A tile's codes. -/
theorem code_apply (y : FVec Ideal S8x4096x20x128 .f32) (b : Fin 8) (s : Fin 4096) (n : Fin 20) (l : Fin 128) :
    RefRun.clipped (RefRun.scaled y) (ix4 b s n l) = Spec.code (fun l => y (ix4 b s n l)) l := by
  unfold RefRun.clipped RefRun.scaled Spec.code
  rw [truncf_apply, minimumf_apply, maximumf_apply, mulf_apply, broadcast_apply, broadcast_apply,
    broadcastInDim_apply _ bcast_S8x4096x20x1_S8x4096x20x128_0_1_2_3 _ _ (ix4 b s n 0) (fun a => match a with | ⟨0, _⟩ => rfl | ⟨1, _⟩ => rfl | ⟨2, _⟩ => rfl | ⟨3, _⟩ => rfl),
    broadcastInDim_apply _ bcast_S8x4096x20_S8x4096x20x1_0_1_2 _ _ (ix3 b s n) (fun a => match a with | ⟨0, _⟩ => rfl | ⟨1, _⟩ => rfl | ⟨2, _⟩ => rfl),
    inv_apply]
  rfl

end Cert.RefRead

end
-- ==== Proof.Results.lean ====
module

public import proofs.«01_k».proof.Proof.Arrays
public import proofs.«01_k».proof.Proof.TileRead
public import proofs.«01_k».proof.Proof.RefRead

@[expose] public section

set_option maxRecDepth 16384

noncomputable section

/-! The kernel's two result arrays are the reference's, over the extended reals. -/

namespace Cert.Results

open Idealize.ShloMosaic hiding ix1 ix2 ix3 ix4
open Idealize.ShloMosaic.ValueIdx Cert.KernelIdeal Cert.KernelIdeal.Gen

/-- Row `s` of batch `b`, as 20 tiles of 128. -/
def row (X : Vec Ideal S8x4096x2560 .bf16) (b : Fin 8) (s : Fin 4096) (n : Fin 20) (l : Fin 128) : EReal :=
  X (ix3 b s ⟨128 * n.val + l.val, by omega⟩)

/-- The weights, as 20 tiles of 128. -/
def weights (W : Vec Ideal S2560 .bf16) (n : Fin 20) (l : Fin 128) : EReal := W (ix1 ⟨128 * n.val + l.val, by omega⟩)

/-- The weights as the kernel takes them: one row. -/
abbrev asRow (W : Vec Ideal S2560 .bf16) : Vec Ideal S1x2560 .f32 :=
  shapeCast S1x2560 (extf (F := Ideal) .f32 W bitsLt_bf16_f32) shapeCasts_S2560_S1x2560

theorem wOf_asRow (W : Vec Ideal S2560 .bf16) : TileRead.wOf (Block.weightsOf (asRow W)) = weights W := by
  funext n l
  unfold TileRead.wOf Block.weightsOf weights
  exact shapeCast_apply _ _ _ (ix1 (⟨128 * n.val + l.val, by omega⟩ : Fin 2560)) (by
    rw [Shape.rowMajor_val_one, Shape.rowMajor_val_two]; show 128 * n.val + l.val = 0 * 2560 + (128 * n.val + l.val); omega)

/-- Row `s` of the array is row `s % 32` of strip `s / 32`. -/
theorem rowOf_strip (X : Vec Ideal S8x4096x2560 .bf16) (b : Fin 8) (t : Fin 128) (r : Fin 32) (s : Fin 4096) (h : s.val = 32 * t.val + r.val) :
    TileRead.rowOf (Arrays.rowStrip X b t) r = row X b s := by
  funext n l
  unfold TileRead.rowOf Arrays.rowStrip row
  refine congrArg X (funext fun a => Fin.ext ?_)
  match a with
  | ⟨0, _⟩ => rfl
  | ⟨1, _⟩ => exact h.symm
  | ⟨2, _⟩ => rfl

/-- The kernel's codes. -/
theorem kernel_codes (X : Vec Ideal S8x4096x2560 .bf16) (W : Vec Ideal S2560 .bf16) (b : Fin 8) (s : Fin 4096) (n : Fin 20) (l : Fin 128) :
    Arrays.codesArr X (asRow W) (ix3 b s ⟨128 * n.val + l.val, by omega⟩) = Spec.code (Spec.normed (row X b s) (weights W) n) l := by
  unfold Arrays.codesArr
  have en : (⟨(128 * n.val + l.val) / 128, by omega⟩ : Fin 20) = n := Fin.ext (by show (128 * n.val + l.val) / 128 = n.val; omega)
  have el : (⟨(128 * n.val + l.val) % 128, by omega⟩ : Fin 128) = l := Fin.ext (by show (128 * n.val + l.val) % 128 = l.val; omega)
  show Tile.codes (Tile.yTile (Arrays.rowStrip X b ⟨s.val / 32, by omega⟩) (Block.weightsOf (asRow W)) ⟨(128 * n.val + l.val) / 128, by omega⟩)
    (ix3 0 ⟨s.val % 32, by omega⟩ ⟨(128 * n.val + l.val) % 128, by omega⟩) = _
  rw [en, el, TileRead.codes_apply]
  refine congrArg (fun y => Spec.code y l) (funext fun l => ?_)
  rw [TileRead.yTile_apply, wOf_asRow, rowOf_strip X b _ _ s (by show s.val = 32 * (s.val / 32) + s.val % 32; omega)]

/-- The kernel's scales. -/
theorem kernel_scales (X : Vec Ideal S8x4096x2560 .bf16) (W : Vec Ideal S2560 .bf16) (b : Fin 8) (s : Fin 4096) (n : Fin 20) :
    transpose S8x4096x20 [1, 2, 0] (Arrays.scalesArr X (asRow W)) transposes_S20x8x4096_S8x4096x20_1_2_0 (ix3 b s n)
      = Spec.scale (Spec.normed (row X b s) (weights W) n) := by
  refine (transpose_apply _ _ _ _ (ix3 n b s) (fun a => match a with | ⟨0, _⟩ => rfl | ⟨1, _⟩ => rfl | ⟨2, _⟩ => rfl)).trans ?_
  unfold Arrays.scalesArr
  show Tile.scales (fun r => Tile.gathered (Arrays.rowStrip X b ⟨4 * (s.val / 128) + r.val, by omega⟩) (Block.weightsOf (asRow W)) 20 le_rfl)
    (ix3 n 0 ⟨s.val % 128, by omega⟩) = _
  rw [TileRead.scales_apply, TileRead.gathered_apply _ _ _ n _ rfl 20 le_rfl n.isLt, wOf_asRow,
    rowOf_strip X b _ _ s (by show s.val = 32 * (4 * (s.val / 128) + s.val % 128 / 32) + s.val % 128 % 32; omega)]

/-- The reference's normalised rows. -/
theorem ref_normed (X : Vec Ideal S8x4096x2560 .bf16) (W : Vec Ideal S2560 .bf16) (b : Fin 8) (s : Fin 4096) (n : Fin 20) :
    (fun l : Fin 128 => RefRun.normed (RefRun.tiles X) W (ix4 b s n l)) = Spec.normed (row X b s) (weights W) n := by
  funext l
  rw [RefRead.normed_apply]
  refine congrArg (fun x => Spec.normed x (weights W) n l) (funext fun n => funext fun l => ?_)
  exact RefRead.tiles_apply X b s n l

/-- The codes agree. -/
theorem codes_eq (X : Vec Ideal S8x4096x2560 .bf16) (W : Vec Ideal S2560 .bf16) :
    shapeCast Cert.ReferenceIdeal.S8x4096x2560 (RefRun.clipped (RefRun.scaled (RefRun.normed (RefRun.tiles X) W)))
      Cert.ReferenceIdeal.Gen.shapeCasts_S8x4096x20x128_S8x4096x2560 = Arrays.codesArr X (asRow W) := by
  funext i
  obtain ⟨b, s, n, l, rfl⟩ : ∃ (b : Fin 8) (s : Fin 4096) (n : Fin 20) (l : Fin 128), i = ix3 b s (⟨128 * n.val + l.val, by omega⟩ : Fin 2560) := by
    have h : (i 2).val < 2560 := (i 2).isLt
    refine ⟨i 0, i 1, ⟨(i 2).val / 128, by omega⟩, ⟨(i 2).val % 128, by omega⟩, funext fun a => Fin.ext ?_⟩
    match a with
    | ⟨0, _⟩ => rfl
    | ⟨1, _⟩ => rfl
    | ⟨2, _⟩ => show (i 2).val = 128 * ((i 2).val / 128) + (i 2).val % 128; omega
  rw [kernel_codes]
  refine (shapeCast_apply _ _ _ (ix4 b s n l) (by
    rw [Shape.rowMajor_val_four, Shape.rowMajor_val_three]
    show ((b.val * 4096 + s.val) * 20 + n.val) * 128 + l.val = (b.val * 4096 + s.val) * 2560 + (128 * n.val + l.val); omega)).trans ?_
  rw [RefRead.code_apply, ref_normed]

/-- The scales agree. -/
theorem scales_eq (X : Vec Ideal S8x4096x2560 .bf16) (W : Vec Ideal S2560 .bf16) :
    RefRun.power (RefRun.expo (RefRun.amax (RefRun.normed (RefRun.tiles X) W)))
      = transpose S8x4096x20 [1, 2, 0] (Arrays.scalesArr X (asRow W)) transposes_S20x8x4096_S8x4096x20_1_2_0 := by
  funext i
  obtain ⟨b, s, n, rfl⟩ : ∃ (b : Fin 8) (s : Fin 4096) (n : Fin 20), i = ix3 b s n := ⟨i 0, i 1, i 2, ValueIdx.eq_ix3 i⟩
  exact ((RefRead.scale_apply _ b s n).trans (congrArg Spec.scale (ref_normed X W b s n))).trans (kernel_scales X W b s n).symm

end Cert.Results

end
-- ==== Proof.Algebraic.lean ====
module

public import proofs.«01_k».proof.Defs
public import proofs.«01_k».proof.Proof.Results

@[expose] public section

set_option maxRecDepth 16384

noncomputable section

/-! The value claim: the kernel and the reference leave equal arrays, both results, over the extended reals. -/

namespace Cert.Algebraic

open Idealize.ShloMosaic Idealize.ShloMosaic.TcCoe Idealize.SL.Sem

/-- From equal arguments, kernel and reference both end with the codes and the scales of the one function of them. -/
theorem algebraic : Cert.algebraic_KernelIdeal_ReferenceIdeal := by
  intro m g m' g' _ hargs
  refine ⟨fun c => Arrays.codesArr (m ((c.tc : Thread Cert.KernelIdeal.nD Cert.KernelIdeal.τ).loc Cert.KernelIdeal.main_arg0))
      (Results.asRow (m ((c.tc : Thread Cert.KernelIdeal.nD Cert.KernelIdeal.τ).loc Cert.KernelIdeal.main_arg1))),
    fun c => transpose Cert.KernelIdeal.S8x4096x20 [1, 2, 0] (Arrays.scalesArr (m ((c.tc : Thread Cert.KernelIdeal.nD Cert.KernelIdeal.τ).loc Cert.KernelIdeal.main_arg0))
      (Results.asRow (m ((c.tc : Thread Cert.KernelIdeal.nD Cert.KernelIdeal.τ).loc Cert.KernelIdeal.main_arg1))))
      Cert.KernelIdeal.Gen.transposes_S20x8x4096_S8x4096x20_1_2_0,
    Arrays.run m g, ?_⟩
  refine (θ_run Cert.ReferenceIdeal.defs _ _).mono (fun r h c => ?_) (RefRun.run m' g')
  obtain ⟨h1, h2, h3⟩ := h c
  rw [(hargs c).1, (hargs c).2, Results.codes_eq] at h1
  rw [(hargs c).1, (hargs c).2, Results.scales_eq] at h2
  exact ⟨h1, h2, h3⟩

end Cert.Algebraic

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ,
  IdealRules.named_const.statement Cert.KernelIdeal.κ "inv_d" .f32 0x39CCCCCD#32 ((1 / 2560 : ℝ) : EReal) rfl,
  Cert.Algebraic.algebraic⟩

end Cert.Proof

end
